-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_expert_numbers_KernelIdeal [hPre_expert_numbers_KernelIdeal : Cert.Pre_expert_numbers_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_expert_numbers_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_expert_numbers_ReferenceIdeal [hPre_expert_numbers_ReferenceIdeal : Cert.Pre_expert_numbers_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_expert_numbers_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_expert_numbers_KernelIdeal [hKernelIdeal : Cert.KernelIdeal.Facts] [hPre_expert_numbers_KernelIdeal : Cert.Pre_expert_numbers_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_expert_numbers_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_expert_numbers_ReferenceIdeal [hReferenceIdeal : Cert.ReferenceIdeal.Facts] [hPre_expert_numbers_ReferenceIdeal : Cert.Pre_expert_numbers_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_expert_numbers_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_expert_numbers_KernelIdeal [hKernelIdeal : Cert.KernelIdeal.Facts] [hReferenceIdeal : Cert.ReferenceIdeal.Facts] [hPre_expert_numbers_KernelIdeal : Cert.Pre_expert_numbers_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_expert_numbers_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_expert_numbers_KernelIdeal : Cert.Pre_expert_numbers_KernelIdeal.Facts) (hPre_expert_numbers_ReferenceIdeal : Cert.Pre_expert_numbers_ReferenceIdeal.Facts),
    quiescent_Kernel (hKernel := hKernel)
    ∧ quiescent_KernelIdeal (hKernelIdeal := hKernelIdeal)
    ∧ quiescent_KernelIdeal_pre_expert_numbers_KernelIdeal (hKernelIdeal := hKernelIdeal) (hPre_expert_numbers_KernelIdeal := hPre_expert_numbers_KernelIdeal)
    ∧ quiescent_ReferenceIdeal (hReferenceIdeal := hReferenceIdeal)
    ∧ quiescent_ReferenceIdeal_pre_expert_numbers_ReferenceIdeal (hReferenceIdeal := hReferenceIdeal) (hPre_expert_numbers_ReferenceIdeal := hPre_expert_numbers_ReferenceIdeal)
    ∧ preserves_Kernel_KernelIdeal
    ∧ algebraic_KernelIdeal_ReferenceIdeal_pre_expert_numbers_KernelIdeal (hKernelIdeal := hKernelIdeal) (hReferenceIdeal := hReferenceIdeal) (hPre_expert_numbers_KernelIdeal := hPre_expert_numbers_KernelIdeal)
-- ==== Pre_expert_numbers_KernelIdeal.lean ====
abbrev S1024x512 : Shape := ⟨2, ![1024, 512]⟩
abbrev S512x16 : Shape := ⟨2, ![512, 16]⟩
abbrev S1024x1 : Shape := ⟨2, ![1024, 1]⟩
abbrev S4x512x1024 : Shape := ⟨3, ![4, 512, 1024]⟩
abbrev S_ : Shape := ⟨0, ![]⟩

class Facts : Prop where
  bcast_S_S1024x1 : S_.BroadcastsInDim S1024x1 (![] : Fin 0 → Fin S1024x1.rank)
  reducesTo_S1024x1_S_d0_1 : S1024x1.ReducesTo [0, 1] S_
  h_S_ : 0 < S_.numel

variable [Facts]

def fn {F : FTy → Type} [FloatOps F] (main_arg0 : FVec F S1024x512 .bf16) (main_arg1 : FVec F S512x16 .bf16) (main_arg2 : IVec S1024x1 32) (main_arg3 : FVec F S4x512x1024 .bf16) : IVec S_ 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 16#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  let main_c_1 : IVec S_ 1 := constantI S_ 1 1#1
  let main_v5 : IVec S_ 1 := (fun x v => Host.reduce IntOp.andi x v reducesTo_S1024x1_S_d0_1 h_S_) main_v4 main_c_1
  main_v5
-- ==== Pre_expert_numbers_ReferenceIdeal.lean ====
abbrev S1024x512 : Shape := ⟨2, ![1024, 512]⟩
abbrev S512x16 : Shape := ⟨2, ![512, 16]⟩
abbrev S1024x1 : Shape := ⟨2, ![1024, 1]⟩
abbrev S16x512x1024 : Shape := ⟨3, ![16, 512, 1024]⟩
abbrev S_ : Shape := ⟨0, ![]⟩

class Facts : Prop where
  bcast_S_S1024x1 : S_.BroadcastsInDim S1024x1 (![] : Fin 0 → Fin S1024x1.rank)
  reducesTo_S1024x1_S_d0_1 : S1024x1.ReducesTo [0, 1] S_
  h_S_ : 0 < S_.numel

variable [Facts]

def fn {F : FTy → Type} [FloatOps F] (main_arg0 : FVec F S1024x512 .bf16) (main_arg1 : FVec F S512x16 .bf16) (main_arg2 : IVec S1024x1 32) (main_arg3 : FVec F S16x512x1024 .bf16) : IVec S_ 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 16#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  let main_c_1 : IVec S_ 1 := constantI S_ 1 1#1
  let main_v5 : IVec S_ 1 := (fun x v => Host.reduce IntOp.andi x v reducesTo_S1024x1_S_d0_1 h_S_) main_v4 main_c_1
  main_v5
-- ==== Kernel.lean ====
abbrev S1024x512 : Shape := ⟨2, ![1024, 512]⟩
abbrev S512x16 : Shape := ⟨2, ![512, 16]⟩
abbrev S1024x1 : Shape := ⟨2, ![1024, 1]⟩
abbrev S4x512x1024 : Shape := ⟨3, ![4, 512, 1024]⟩
abbrev S1024x1024 : Shape := ⟨2, ![1024, 1024]⟩
abbrev S256x1024 : Shape := ⟨2, ![256, 1024]⟩
abbrev S4x256x1024 : Shape := ⟨3, ![4, 256, 1024]⟩
abbrev S3x4 : Shape := ⟨2, ![3, 4]⟩
abbrev S4x4 : Shape := ⟨2, ![4, 4]⟩
abbrev S1024 : Shape := ⟨1, ![1024]⟩
abbrev S1024x16 : Shape := ⟨2, ![1024, 16]⟩
abbrev S1024x256 : Shape := ⟨2, ![1024, 256]⟩
abbrev S_ : Shape := ⟨0, ![]⟩
abbrev S256x512 : Shape := ⟨2, ![256, 512]⟩
abbrev S64x512 : Shape := ⟨2, ![64, 512]⟩
abbrev S1x512x1024 : Shape := ⟨3, ![1, 512, 1024]⟩
abbrev S512x1024 : Shape := ⟨2, ![512, 1024]⟩
abbrev S64x1024 : Shape := ⟨2, ![64, 1024]⟩
abbrev S1x1 : Shape := ⟨2, ![1, 1]⟩
abbrev S1x56x1024 : Shape := ⟨3, ![1, 56, 1024]⟩
abbrev S56x1024 : Shape := ⟨2, ![56, 1024]⟩
abbrev S1x256x1024 : Shape := ⟨3, ![1, 256, 1024]⟩

abbrev nBuf : Space → Nat
  | .hbm => 5
  | .vmem => 6
  | .smem => 0
  | _ => 0

abbrev bufTy : (tb : Table) → Fin (tcTables nBuf tb) → BufTy
  | .hbm, ⟨0, _⟩ => ⟨S1024x512, .bf16⟩
  | .hbm, ⟨1, _⟩ => ⟨S512x16, .bf16⟩
  | .hbm, ⟨2, _⟩ => ⟨S1024x1, .i32⟩
  | .hbm, ⟨3, _⟩ => ⟨S4x512x1024, .bf16⟩
  | .hbm, ⟨4, _⟩ => ⟨S1024x1024, .f32⟩
  | .local _ .vmem, ⟨0, _⟩ => ⟨S1024x512, .bf16⟩
  | .local _ .vmem, ⟨1, _⟩ => ⟨S1024x1, .i32⟩
  | .local _ .vmem, ⟨2, _⟩ => ⟨S4x512x1024, .bf16⟩
  | .local _ .vmem, ⟨3, _⟩ => ⟨S1024x1024, .f32⟩
  | .local _ .vmem, ⟨4, _⟩ => ⟨S256x1024, .bf16⟩
  | .local _ .vmem, ⟨5, _⟩ => ⟨S4x256x1024, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v46 : BitVec 32 := Scalar.addi v2 c1_i32_6
  let c4_i32_7 : BitVec 32 := 4#32
  let c0_i32 : BitVec 32 := 0#32
  let v47 : BitVec 1 := Scalar.cmpi .eq c4_i32_7 c0_i32
  let c1_i32_8 : BitVec 32 := 1#32
  let v48 : BitVec 32 := Scalar.select v47 c1_i32_8 c4_i32_7
  let v49 : BitVec 32 := Scalar.remsi v46 v48
  let c0_i32_10 : BitVec 32 := 0#32
  let v51 : BitVec 1 := Scalar.cmpi .slt v49 c0_i32_10
  let c0_i32_11 : BitVec 32 := 0#32
  let v52 : BitVec 1 := Scalar.cmpi .slt v48 c0_i32_11
  let v53 : BitVec 1 := Scalar.xori v51 v52
  let c0_i32_9 : BitVec 32 := 0#32
  let v50 : BitVec 1 := Scalar.cmpi .ne v49 c0_i32_9
  let v54 : BitVec 1 := Scalar.andi v53 v50
  let v55 : BitVec 32 := Scalar.addi v49 v48
  let v56 : BitVec 32 := Scalar.select v54 v55 v49
  let c1_i32_13 : BitVec 32 := 1#32
  let v57 : BitVec 32 := Scalar.muli v56 c1_i32_13
  let v58 : BitVec 32 := Scalar.addi c0_i32_14 v57
  v58.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v59 : BitVec 32 := Scalar.addi v2 c2_i32
  let c4_i32_15 : BitVec 32 := 4#32
  let c0_i32_16 : BitVec 32 := 0#32
  let v60 : BitVec 1 := Scalar.cmpi .eq c4_i32_15 c0_i32_16
  let c1_i32_17 : BitVec 32 := 1#32
  let v61 : BitVec 32 := Scalar.select v60 c1_i32_17 c4_i32_15
  let v62 : BitVec 32 := Scalar.remsi v59 v61
  let c0_i32_19 : BitVec 32 := 0#32
  let v64 : BitVec 1 := Scalar.cmpi .slt v62 c0_i32_19
  let c0_i32_20 : BitVec 32 := 0#32
  let v65 : BitVec 1 := Scalar.cmpi .slt v61 c0_i32_20
  let v66 : BitVec 1 := Scalar.xori v64 v65
  let c0_i32_18 : BitVec 32 := 0#32
  let v63 : BitVec 1 := Scalar.cmpi .ne v62 c0_i32_18
  let v67 : BitVec 1 := Scalar.andi v66 v63
  let v68 : BitVec 32 := Scalar.addi v62 v61
  let v69 : BitVec 32 := Scalar.select v67 v68 v62
  let c1_i32_22 : BitVec 32 := 1#32
  let v70 : BitVec 32 := Scalar.muli v69 c1_i32_22
  let v71 : BitVec 32 := Scalar.addi c0_i32_23 v70
  v71.toNat
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v72 : BitVec 32 := Scalar.addi v2 c3_i32
  let c4_i32_24 : BitVec 32 := 4#32
  let c0_i32_25 : BitVec 32 := 0#32
  let v73 : BitVec 1 := Scalar.cmpi .eq c4_i32_24 c0_i32_25
  let c1_i32_26 : BitVec 32 := 1#32
  let v74 : BitVec 32 := Scalar.select v73 c1_i32_26 c4_i32_24
  let v75 : BitVec 32 := Scalar.remsi v72 v74
  let c0_i32_28 : BitVec 32 := 0#32
  let v77 : BitVec 1 := Scalar.cmpi .slt v75 c0_i32_28
  let c0_i32_29 : BitVec 32 := 0#32
  let v78 : BitVec 1 := Scalar.cmpi .slt v74 c0_i32_29
  let v79 : BitVec 1 := Scalar.xori v77 v78
  let c0_i32_27 : BitVec 32 := 0#32
  let v76 : BitVec 1 := Scalar.cmpi .ne v75 c0_i32_27
  let v80 : BitVec 1 := Scalar.andi v79 v76
  let v81 : BitVec 32 := Scalar.addi v75 v74
  let v82 : BitVec 32 := Scalar.select v80 v81 v75
  let c1_i32_31 : BitVec 32 := 1#32
  let v83 : BitVec 32 := Scalar.muli v82 c1_i32_31
  let v84 : BitVec 32 := Scalar.addi c0_i32_32 v83
  v84.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_50 : BitVec 32 := 0#32
  ![v2.toNat, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_55 : BitVec 32 := 0#32
  let c0_i32_56 : BitVec 32 := 0#32
  ![v2.toNat, 0, 0]
def k0_dev4 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_43 : BitVec 32 := 1#32
  let v97 : BitVec 32 := Scalar.addi v2 c1_i32_43
  let c4_i32_44 : BitVec 32 := 4#32
  let c0_i32_45 : BitVec 32 := 0#32
  let v98 : BitVec 1 := Scalar.cmpi .eq c4_i32_44 c0_i32_45
  let c1_i32_46 : BitVec 32 := 1#32
  let v99 : BitVec 32 := Scalar.select v98 c1_i32_46 c4_i32_44
  let v100 : BitVec 32 := Scalar.remsi v97 v99
  let c0_i32_48 : BitVec 32 := 0#32
  let v102 : BitVec 1 := Scalar.cmpi .slt v100 c0_i32_48
  let c0_i32_49 : BitVec 32 := 0#32
  let v103 : BitVec 1 := Scalar.cmpi .slt v99 c0_i32_49
  let v104 : BitVec 1 := Scalar.xori v102 v103
  let c0_i32_47 : BitVec 32 := 0#32
  let v101 : BitVec 1 := Scalar.cmpi .ne v100 c0_i32_47
  let v105 : BitVec 1 := Scalar.andi v104 v101
  let v106 : BitVec 32 := Scalar.addi v100 v99
  let v107 : BitVec 32 := Scalar.select v105 v106 v100
  let c1_i32_53 : BitVec 32 := 1#32
  let v108 : BitVec 32 := Scalar.muli v107 c1_i32_53
  let v109 : BitVec 32 := Scalar.addi c0_i32_54 v108
  v109.toNat
def k0_dev5 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_59 : BitVec 32 := 2#32
  let v117 : BitVec 32 := Scalar.addi v2 c2_i32_59
  let c4_i32_60 : BitVec 32 := 4#32
  let c0_i32_61 : BitVec 32 := 0#32
  let v118 : BitVec 1 := Scalar.cmpi .eq c4_i32_60 c0_i32_61
  let c1_i32_62 : BitVec 32 := 1#32
  let v119 : BitVec 32 := Scalar.select v118 c1_i32_62 c4_i32_60
  let v120 : BitVec 32 := Scalar.remsi v117 v119
  let c0_i32_64 : BitVec 32 := 0#32
  let v122 : BitVec 1 := Scalar.cmpi .slt v120 c0_i32_64
  let c0_i32_65 : BitVec 32 := 0#32
  let v123 : BitVec 1 := Scalar.cmpi .slt v119 c0_i32_65
  let v124 : BitVec 1 := Scalar.xori v122 v123
  let c0_i32_63 : BitVec 32 := 0#32
  let v121 : BitVec 1 := Scalar.cmpi .ne v120 c0_i32_63
  let v125 : BitVec 1 := Scalar.andi v124 v121
  let v126 : BitVec 32 := Scalar.addi v120 v119
  let v127 : BitVec 32 := Scalar.select v125 v126 v120
  let c1_i32_69 : BitVec 32 := 1#32
  let v128 : BitVec 32 := Scalar.muli v127 c1_i32_69
  let v129 : BitVec 32 := Scalar.addi c0_i32_70 v128
  v129.toNat
def k0_dev6 (d0 : Dev nD) : Nat :=
  let c0_i32_86 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_75 : BitVec 32 := 3#32
  let v137 : BitVec 32 := Scalar.addi v2 c3_i32_75
  let c4_i32_76 : BitVec 32 := 4#32
  let c0_i32_77 : BitVec 32 := 0#32
  let v138 : BitVec 1 := Scalar.cmpi .eq c4_i32_76 c0_i32_77
  let c1_i32_78 : BitVec 32 := 1#32
  let v139 : BitVec 32 := Scalar.select v138 c1_i32_78 c4_i32_76
  let v140 : BitVec 32 := Scalar.remsi v137 v139
  let c0_i32_80 : BitVec 32 := 0#32
  let v142 : BitVec 1 := Scalar.cmpi .slt v140 c0_i32_80
  let c0_i32_81 : BitVec 32 := 0#32
  let v143 : BitVec 1 := Scalar.cmpi .slt v139 c0_i32_81
  let v144 : BitVec 1 := Scalar.xori v142 v143
  let c0_i32_79 : BitVec 32 := 0#32
  let v141 : BitVec 1 := Scalar.cmpi .ne v140 c0_i32_79
  let v145 : BitVec 1 := Scalar.andi v144 v141
  let v146 : BitVec 32 := Scalar.addi v140 v139
  let v147 : BitVec 32 := Scalar.select v145 v146 v140
  let c1_i32_85 : BitVec 32 := 1#32
  let v148 : BitVec 32 := Scalar.muli v147 c1_i32_85
  let v149 : BitVec 32 := Scalar.addi c0_i32_86 v148
  v149.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_102 : BitVec 32 := 1#32
  ![v2.toNat, 1]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_107 : BitVec 32 := 64#32
  let c0_i32_108 : BitVec 32 := 0#32
  ![v2.toNat, 64, 0]
def k0_dev7 (d0 : Dev nD) : Nat :=
  let c0_i32_106 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_95 : BitVec 32 := 1#32
  let v165 : BitVec 32 := Scalar.addi v2 c1_i32_95
  let c4_i32_96 : BitVec 32 := 4#32
  let c0_i32_97 : BitVec 32 := 0#32
  let v166 : BitVec 1 := Scalar.cmpi .eq c4_i32_96 c0_i32_97
  let c1_i32_98 : BitVec 32 := 1#32
  let v167 : BitVec 32 := Scalar.select v166 c1_i32_98 c4_i32_96
  let v168 : BitVec 32 := Scalar.remsi v165 v167
  let c0_i32_100 : BitVec 32 := 0#32
  let v170 : BitVec 1 := Scalar.cmpi .slt v168 c0_i32_100
  let c0_i32_101 : BitVec 32 := 0#32
  let v171 : BitVec 1 := Scalar.cmpi .slt v167 c0_i32_101
  let v172 : BitVec 1 := Scalar.xori v170 v171
  let c0_i32_99 : BitVec 32 := 0#32
  let v169 : BitVec 1 := Scalar.cmpi .ne v168 c0_i32_99
  let v173 : BitVec 1 := Scalar.andi v172 v169
  let v174 : BitVec 32 := Scalar.addi v168 v167
  let v175 : BitVec 32 := Scalar.select v173 v174 v168
  let c1_i32_105 : BitVec 32 := 1#32
  let v176 : BitVec 32 := Scalar.muli v175 c1_i32_105
  let v177 : BitVec 32 := Scalar.addi c0_i32_106 v176
  v177.toNat
def k0_dev8 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_111 : BitVec 32 := 2#32
  let v185 : BitVec 32 := Scalar.addi v2 c2_i32_111
  let c4_i32_112 : BitVec 32 := 4#32
  let c0_i32_113 : BitVec 32 := 0#32
  let v186 : BitVec 1 := Scalar.cmpi .eq c4_i32_112 c0_i32_113
  let c1_i32_114 : BitVec 32 := 1#32
  let v187 : BitVec 32 := Scalar.select v186 c1_i32_114 c4_i32_112
  let v188 : BitVec 32 := Scalar.remsi v185 v187
  let c0_i32_116 : BitVec 32 := 0#32
  let v190 : BitVec 1 := Scalar.cmpi .slt v188 c0_i32_116
  let c0_i32_117 : BitVec 32 := 0#32
  let v191 : BitVec 1 := Scalar.cmpi .slt v187 c0_i32_117
  let v192 : BitVec 1 := Scalar.xori v190 v191
  let c0_i32_115 : BitVec 32 := 0#32
  let v189 : BitVec 1 := Scalar.cmpi .ne v188 c0_i32_115
  let v193 : BitVec 1 := Scalar.andi v192 v189
  let v194 : BitVec 32 := Scalar.addi v188 v187
  let v195 : BitVec 32 := Scalar.select v193 v194 v188
  let c1_i32_121 : BitVec 32 := 1#32
  let v196 : BitVec 32 := Scalar.muli v195 c1_i32_121
  let v197 : BitVec 32 := Scalar.addi c0_i32_122 v196
  v197.toNat
def k0_dev9 (d0 : Dev nD) : Nat :=
  let c0_i32_138 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_127 : BitVec 32 := 3#32
  let v205 : BitVec 32 := Scalar.addi v2 c3_i32_127
  let c4_i32_128 : BitVec 32 := 4#32
  let c0_i32_129 : BitVec 32 := 0#32
  let v206 : BitVec 1 := Scalar.cmpi .eq c4_i32_128 c0_i32_129
  let c1_i32_130 : BitVec 32 := 1#32
  let v207 : BitVec 32 := Scalar.select v206 c1_i32_130 c4_i32_128
  let v208 : BitVec 32 := Scalar.remsi v205 v207
  let c0_i32_132 : BitVec 32 := 0#32
  let v210 : BitVec 1 := Scalar.cmpi .slt v208 c0_i32_132
  let c0_i32_133 : BitVec 32 := 0#32
  let v211 : BitVec 1 := Scalar.cmpi .slt v207 c0_i32_133
  let v212 : BitVec 1 := Scalar.xori v210 v211
  let c0_i32_131 : BitVec 32 := 0#32
  let v209 : BitVec 1 := Scalar.cmpi .ne v208 c0_i32_131
  let v213 : BitVec 1 := Scalar.andi v212 v209
  let v214 : BitVec 32 := Scalar.addi v208 v207
  let v215 : BitVec 32 := Scalar.select v213 v214 v208
  let c1_i32_137 : BitVec 32 := 1#32
  let v216 : BitVec 32 := Scalar.muli v215 c1_i32_137
  let v217 : BitVec 32 := Scalar.addi c0_i32_138 v216
  v217.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_154 : BitVec 32 := 2#32
  ![v2.toNat, 2]
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32 : BitVec 32 := 128#32
  let c0_i32_159 : BitVec 32 := 0#32
  ![v2.toNat, 128, 0]
def k0_dev10 (d0 : Dev nD) : Nat :=
  let c0_i32_158 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_147 : BitVec 32 := 1#32
  let v233 : BitVec 32 := Scalar.addi v2 c1_i32_147
  let c4_i32_148 : BitVec 32 := 4#32
  let c0_i32_149 : BitVec 32 := 0#32
  let v234 : BitVec 1 := Scalar.cmpi .eq c4_i32_148 c0_i32_149
  let c1_i32_150 : BitVec 32 := 1#32
  let v235 : BitVec 32 := Scalar.select v234 c1_i32_150 c4_i32_148
  let v236 : BitVec 32 := Scalar.remsi v233 v235
  let c0_i32_152 : BitVec 32 := 0#32
  let v238 : BitVec 1 := Scalar.cmpi .slt v236 c0_i32_152
  let c0_i32_153 : BitVec 32 := 0#32
  let v239 : BitVec 1 := Scalar.cmpi .slt v235 c0_i32_153
  let v240 : BitVec 1 := Scalar.xori v238 v239
  let c0_i32_151 : BitVec 32 := 0#32
  let v237 : BitVec 1 := Scalar.cmpi .ne v236 c0_i32_151
  let v241 : BitVec 1 := Scalar.andi v240 v237
  let v242 : BitVec 32 := Scalar.addi v236 v235
  let v243 : BitVec 32 := Scalar.select v241 v242 v236
  let c1_i32_157 : BitVec 32 := 1#32
  let v244 : BitVec 32 := Scalar.muli v243 c1_i32_157
  let v245 : BitVec 32 := Scalar.addi c0_i32_158 v244
  v245.toNat
def k0_dev11 (d0 : Dev nD) : Nat :=
  let c0_i32_173 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_162 : BitVec 32 := 2#32
  let v253 : BitVec 32 := Scalar.addi v2 c2_i32_162
  let c4_i32_163 : BitVec 32 := 4#32
  let c0_i32_164 : BitVec 32 := 0#32
  let v254 : BitVec 1 := Scalar.cmpi .eq c4_i32_163 c0_i32_164
  let c1_i32_165 : BitVec 32 := 1#32
  let v255 : BitVec 32 := Scalar.select v254 c1_i32_165 c4_i32_163
  let v256 : BitVec 32 := Scalar.remsi v253 v255
  let c0_i32_167 : BitVec 32 := 0#32
  let v258 : BitVec 1 := Scalar.cmpi .slt v256 c0_i32_167
  let c0_i32_168 : BitVec 32 := 0#32
  let v259 : BitVec 1 := Scalar.cmpi .slt v255 c0_i32_168
  let v260 : BitVec 1 := Scalar.xori v258 v259
  let c0_i32_166 : BitVec 32 := 0#32
  let v257 : BitVec 1 := Scalar.cmpi .ne v256 c0_i32_166
  let v261 : BitVec 1 := Scalar.andi v260 v257
  let v262 : BitVec 32 := Scalar.addi v256 v255
  let v263 : BitVec 32 := Scalar.select v261 v262 v256
  let c1_i32_172 : BitVec 32 := 1#32
  let v264 : BitVec 32 := Scalar.muli v263 c1_i32_172
  let v265 : BitVec 32 := Scalar.addi c0_i32_173 v264
  v265.toNat
def k0_dev12 (d0 : Dev nD) : Nat :=
  let c0_i32_189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_178 : BitVec 32 := 3#32
  let v273 : BitVec 32 := Scalar.addi v2 c3_i32_178
  let c4_i32_179 : BitVec 32 := 4#32
  let c0_i32_180 : BitVec 32 := 0#32
  let v274 : BitVec 1 := Scalar.cmpi .eq c4_i32_179 c0_i32_180
  let c1_i32_181 : BitVec 32 := 1#32
  let v275 : BitVec 32 := Scalar.select v274 c1_i32_181 c4_i32_179
  let v276 : BitVec 32 := Scalar.remsi v273 v275
  let c0_i32_183 : BitVec 32 := 0#32
  let v278 : BitVec 1 := Scalar.cmpi .slt v276 c0_i32_183
  let c0_i32_184 : BitVec 32 := 0#32
  let v279 : BitVec 1 := Scalar.cmpi .slt v275 c0_i32_184
  let v280 : BitVec 1 := Scalar.xori v278 v279
  let c0_i32_182 : BitVec 32 := 0#32
  let v277 : BitVec 1 := Scalar.cmpi .ne v276 c0_i32_182
  let v281 : BitVec 1 := Scalar.andi v280 v277
  let v282 : BitVec 32 := Scalar.addi v276 v275
  let v283 : BitVec 32 := Scalar.select v281 v282 v276
  let c1_i32_188 : BitVec 32 := 1#32
  let v284 : BitVec 32 := Scalar.muli v283 c1_i32_188
  let v285 : BitVec 32 := Scalar.addi c0_i32_189 v284
  v285.toNat
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_205 : BitVec 32 := 3#32
  ![v2.toNat, 3]
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c192_i32 : BitVec 32 := 192#32
  let c0_i32_210 : BitVec 32 := 0#32
  ![v2.toNat, 192, 0]
def k0_dev13 (d0 : Dev nD) : Nat :=
  let c0_i32_209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_198 : BitVec 32 := 1#32
  let v301 : BitVec 32 := Scalar.addi v2 c1_i32_198
  let c4_i32_199 : BitVec 32 := 4#32
  let c0_i32_200 : BitVec 32 := 0#32
  let v302 : BitVec 1 := Scalar.cmpi .eq c4_i32_199 c0_i32_200
  let c1_i32_201 : BitVec 32 := 1#32
  let v303 : BitVec 32 := Scalar.select v302 c1_i32_201 c4_i32_199
  let v304 : BitVec 32 := Scalar.remsi v301 v303
  let c0_i32_203 : BitVec 32 := 0#32
  let v306 : BitVec 1 := Scalar.cmpi .slt v304 c0_i32_203
  let c0_i32_204 : BitVec 32 := 0#32
  let v307 : BitVec 1 := Scalar.cmpi .slt v303 c0_i32_204
  let v308 : BitVec 1 := Scalar.xori v306 v307
  let c0_i32_202 : BitVec 32 := 0#32
  let v305 : BitVec 1 := Scalar.cmpi .ne v304 c0_i32_202
  let v309 : BitVec 1 := Scalar.andi v308 v305
  let v310 : BitVec 32 := Scalar.addi v304 v303
  let v311 : BitVec 32 := Scalar.select v309 v310 v304
  let c1_i32_208 : BitVec 32 := 1#32
  let v312 : BitVec 32 := Scalar.muli v311 c1_i32_208
  let v313 : BitVec 32 := Scalar.addi c0_i32_209 v312
  v313.toNat
def k0_dev14 (d0 : Dev nD) : Nat :=
  let c0_i32_224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_213 : BitVec 32 := 2#32
  let v321 : BitVec 32 := Scalar.addi v2 c2_i32_213
  let c4_i32_214 : BitVec 32 := 4#32
  let c0_i32_215 : BitVec 32 := 0#32
  let v322 : BitVec 1 := Scalar.cmpi .eq c4_i32_214 c0_i32_215
  let c1_i32_216 : BitVec 32 := 1#32
  let v323 : BitVec 32 := Scalar.select v322 c1_i32_216 c4_i32_214
  let v324 : BitVec 32 := Scalar.remsi v321 v323
  let c0_i32_218 : BitVec 32 := 0#32
  let v326 : BitVec 1 := Scalar.cmpi .slt v324 c0_i32_218
  let c0_i32_219 : BitVec 32 := 0#32
  let v327 : BitVec 1 := Scalar.cmpi .slt v323 c0_i32_219
  let v328 : BitVec 1 := Scalar.xori v326 v327
  let c0_i32_217 : BitVec 32 := 0#32
  let v325 : BitVec 1 := Scalar.cmpi .ne v324 c0_i32_217
  let v329 : BitVec 1 := Scalar.andi v328 v325
  let v330 : BitVec 32 := Scalar.addi v324 v323
  let v331 : BitVec 32 := Scalar.select v329 v330 v324
  let c1_i32_223 : BitVec 32 := 1#32
  let v332 : BitVec 32 := Scalar.muli v331 c1_i32_223
  let v333 : BitVec 32 := Scalar.addi c0_i32_224 v332
  v333.toNat
def k0_dev15 (d0 : Dev nD) : Nat :=
  let c0_i32_240 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_229 : BitVec 32 := 3#32
  let v341 : BitVec 32 := Scalar.addi v2 c3_i32_229
  let c4_i32_230 : BitVec 32 := 4#32
  let c0_i32_231 : BitVec 32 := 0#32
  let v342 : BitVec 1 := Scalar.cmpi .eq c4_i32_230 c0_i32_231
  let c1_i32_232 : BitVec 32 := 1#32
  let v343 : BitVec 32 := Scalar.select v342 c1_i32_232 c4_i32_230
  let v344 : BitVec 32 := Scalar.remsi v341 v343
  let c0_i32_234 : BitVec 32 := 0#32
  let v346 : BitVec 1 := Scalar.cmpi .slt v344 c0_i32_234
  let c0_i32_235 : BitVec 32 := 0#32
  let v347 : BitVec 1 := Scalar.cmpi .slt v343 c0_i32_235
  let v348 : BitVec 1 := Scalar.xori v346 v347
  let c0_i32_233 : BitVec 32 := 0#32
  let v345 : BitVec 1 := Scalar.cmpi .ne v344 c0_i32_233
  let v349 : BitVec 1 := Scalar.andi v348 v345
  let v350 : BitVec 32 := Scalar.addi v344 v343
  let v351 : BitVec 32 := Scalar.select v349 v350 v344
  let c1_i32_239 : BitVec 32 := 1#32
  let v352 : BitVec 32 := Scalar.muli v351 c1_i32_239
  let v353 : BitVec 32 := Scalar.addi c0_i32_240 v352
  v353.toNat
def k0_off9 (d0 : Dev nD) (c1_i32_250 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v364 : BitVec 32 := Scalar.addi v2 c1_i32_250
  let c4_i32_251 : BitVec 32 := 4#32
  let c0_i32_252 : BitVec 32 := 0#32
  let v365 : BitVec 1 := Scalar.cmpi .eq c4_i32_251 c0_i32_252
  let c1_i32_253 : BitVec 32 := 1#32
  let v366 : BitVec 32 := Scalar.select v365 c1_i32_253 c4_i32_251
  let v367 : BitVec 32 := Scalar.remsi v364 v366
  let c0_i32_255 : BitVec 32 := 0#32
  let v369 : BitVec 1 := Scalar.cmpi .slt v367 c0_i32_255
  let c0_i32_256 : BitVec 32 := 0#32
  let v370 : BitVec 1 := Scalar.cmpi .slt v366 c0_i32_256
  let v371 : BitVec 1 := Scalar.xori v369 v370
  let c0_i32_254 : BitVec 32 := 0#32
  let v368 : BitVec 1 := Scalar.cmpi .ne v367 c0_i32_254
  let v372 : BitVec 1 := Scalar.andi v371 v368
  let v373 : BitVec 32 := Scalar.addi v367 v366
  let v374 : BitVec 32 := Scalar.select v372 v373 v367
  let c0_i32_258 : BitVec 32 := 0#32
  ![v374.toNat, 0]
def k0_off10 (d0 : Dev nD) (c1_i32_250 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v364 : BitVec 32 := Scalar.addi v2 c1_i32_250
  let c4_i32_251 : BitVec 32 := 4#32
  let c0_i32_252 : BitVec 32 := 0#32
  let v365 : BitVec 1 := Scalar.cmpi .eq c4_i32_251 c0_i32_252
  let c1_i32_253 : BitVec 32 := 1#32
  let v366 : BitVec 32 := Scalar.select v365 c1_i32_253 c4_i32_251
  let v367 : BitVec 32 := Scalar.remsi v364 v366
  let c0_i32_255 : BitVec 32 := 0#32
  let v369 : BitVec 1 := Scalar.cmpi .slt v367 c0_i32_255
  let c0_i32_256 : BitVec 32 := 0#32
  let v370 : BitVec 1 := Scalar.cmpi .slt v366 c0_i32_256
  let v371 : BitVec 1 := Scalar.xori v369 v370
  let c0_i32_254 : BitVec 32 := 0#32
  let v368 : BitVec 1 := Scalar.cmpi .ne v367 c0_i32_254
  let v372 : BitVec 1 := Scalar.andi v371 v368
  let v373 : BitVec 32 := Scalar.addi v367 v366
  let v374 : BitVec 32 := Scalar.select v372 v373 v367
  let c0_i32_263 : BitVec 32 := 0#32
  let c0_i32_264 : BitVec 32 := 0#32
  ![v374.toNat, 0, 0]
def k0_off11 (d0 : Dev nD) (c1_i32_250 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v364 : BitVec 32 := Scalar.addi v2 c1_i32_250
  let c4_i32_251 : BitVec 32 := 4#32
  let c0_i32_252 : BitVec 32 := 0#32
  let v365 : BitVec 1 := Scalar.cmpi .eq c4_i32_251 c0_i32_252
  let c1_i32_253 : BitVec 32 := 1#32
  let v366 : BitVec 32 := Scalar.select v365 c1_i32_253 c4_i32_251
  let v367 : BitVec 32 := Scalar.remsi v364 v366
  let c0_i32_255 : BitVec 32 := 0#32
  let v369 : BitVec 1 := Scalar.cmpi .slt v367 c0_i32_255
  let c0_i32_256 : BitVec 32 := 0#32
  let v370 : BitVec 1 := Scalar.cmpi .slt v366 c0_i32_256
  let v371 : BitVec 1 := Scalar.xori v369 v370
  let c0_i32_254 : BitVec 32 := 0#32
  let v368 : BitVec 1 := Scalar.cmpi .ne v367 c0_i32_254
  let v372 : BitVec 1 := Scalar.andi v371 v368
  let v373 : BitVec 32 := Scalar.addi v367 v366
  let v374 : BitVec 32 := Scalar.select v372 v373 v367
  let c1_i32_267 : BitVec 32 := 1#32
  ![v374.toNat, 1]
def k0_off12 (d0 : Dev nD) (c1_i32_250 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v364 : BitVec 32 := Scalar.addi v2 c1_i32_250
  let c4_i32_251 : BitVec 32 := 4#32
  let c0_i32_252 : BitVec 32 := 0#32
  let v365 : BitVec 1 := Scalar.cmpi .eq c4_i32_251 c0_i32_252
  let c1_i32_253 : BitVec 32 := 1#32
  let v366 : BitVec 32 := Scalar.select v365 c1_i32_253 c4_i32_251
  let v367 : BitVec 32 := Scalar.remsi v364 v366
  let c0_i32_255 : BitVec 32 := 0#32
  let v369 : BitVec 1 := Scalar.cmpi .slt v367 c0_i32_255
  let c0_i32_256 : BitVec 32 := 0#32
  let v370 : BitVec 1 := Scalar.cmpi .slt v366 c0_i32_256
  let v371 : BitVec 1 := Scalar.xori v369 v370
  let c0_i32_254 : BitVec 32 := 0#32
  let v368 : BitVec 1 := Scalar.cmpi .ne v367 c0_i32_254
  let v372 : BitVec 1 := Scalar.andi v371 v368
  let v373 : BitVec 32 := Scalar.addi v367 v366
  let v374 : BitVec 32 := Scalar.select v372 v373 v367
  let c64_i32_272 : BitVec 32 := 64#32
  let c0_i32_273 : BitVec 32 := 0#32
  ![v374.toNat, 64, 0]
def k0_off13 (d0 : Dev nD) (c1_i32_250 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v364 : BitVec 32 := Scalar.addi v2 c1_i32_250
  let c4_i32_251 : BitVec 32 := 4#32
  let c0_i32_252 : BitVec 32 := 0#32
  let v365 : BitVec 1 := Scalar.cmpi .eq c4_i32_251 c0_i32_252
  let c1_i32_253 : BitVec 32 := 1#32
  let v366 : BitVec 32 := Scalar.select v365 c1_i32_253 c4_i32_251
  let v367 : BitVec 32 := Scalar.remsi v364 v366
  let c0_i32_255 : BitVec 32 := 0#32
  let v369 : BitVec 1 := Scalar.cmpi .slt v367 c0_i32_255
  let c0_i32_256 : BitVec 32 := 0#32
  let v370 : BitVec 1 := Scalar.cmpi .slt v366 c0_i32_256
  let v371 : BitVec 1 := Scalar.xori v369 v370
  let c0_i32_254 : BitVec 32 := 0#32
  let v368 : BitVec 1 := Scalar.cmpi .ne v367 c0_i32_254
  let v372 : BitVec 1 := Scalar.andi v371 v368
  let v373 : BitVec 32 := Scalar.addi v367 v366
  let v374 : BitVec 32 := Scalar.select v372 v373 v367
  let c2_i32_276 : BitVec 32 := 2#32
  ![v374.toNat, 2]
def k0_off14 (d0 : Dev nD) (c1_i32_250 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v364 : BitVec 32 := Scalar.addi v2 c1_i32_250
  let c4_i32_251 : BitVec 32 := 4#32
  let c0_i32_252 : BitVec 32 := 0#32
  let v365 : BitVec 1 := Scalar.cmpi .eq c4_i32_251 c0_i32_252
  let c1_i32_253 : BitVec 32 := 1#32
  let v366 : BitVec 32 := Scalar.select v365 c1_i32_253 c4_i32_251
  let v367 : BitVec 32 := Scalar.remsi v364 v366
  let c0_i32_255 : BitVec 32 := 0#32
  let v369 : BitVec 1 := Scalar.cmpi .slt v367 c0_i32_255
  let c0_i32_256 : BitVec 32 := 0#32
  let v370 : BitVec 1 := Scalar.cmpi .slt v366 c0_i32_256
  let v371 : BitVec 1 := Scalar.xori v369 v370
  let c0_i32_254 : BitVec 32 := 0#32
  let v368 : BitVec 1 := Scalar.cmpi .ne v367 c0_i32_254
  let v372 : BitVec 1 := Scalar.andi v371 v368
  let v373 : BitVec 32 := Scalar.addi v367 v366
  let v374 : BitVec 32 := Scalar.select v372 v373 v367
  let c128_i32_281 : BitVec 32 := 128#32
  let c0_i32_282 : BitVec 32 := 0#32
  ![v374.toNat, 128, 0]
def k0_off15 (d0 : Dev nD) (c1_i32_250 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v364 : BitVec 32 := Scalar.addi v2 c1_i32_250
  let c4_i32_251 : BitVec 32 := 4#32
  let c0_i32_252 : BitVec 32 := 0#32
  let v365 : BitVec 1 := Scalar.cmpi .eq c4_i32_251 c0_i32_252
  let c1_i32_253 : BitVec 32 := 1#32
  let v366 : BitVec 32 := Scalar.select v365 c1_i32_253 c4_i32_251
  let v367 : BitVec 32 := Scalar.remsi v364 v366
  let c0_i32_255 : BitVec 32 := 0#32
  let v369 : BitVec 1 := Scalar.cmpi .slt v367 c0_i32_255
  let c0_i32_256 : BitVec 32 := 0#32
  let v370 : BitVec 1 := Scalar.cmpi .slt v366 c0_i32_256
  let v371 : BitVec 1 := Scalar.xori v369 v370
  let c0_i32_254 : BitVec 32 := 0#32
  let v368 : BitVec 1 := Scalar.cmpi .ne v367 c0_i32_254
  let v372 : BitVec 1 := Scalar.andi v371 v368
  let v373 : BitVec 32 := Scalar.addi v367 v366
  let v374 : BitVec 32 := Scalar.select v372 v373 v367
  let c3_i32_285 : BitVec 32 := 3#32
  ![v374.toNat, 3]
def k0_off16 (d0 : Dev nD) (c1_i32_250 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v364 : BitVec 32 := Scalar.addi v2 c1_i32_250
  let c4_i32_251 : BitVec 32 := 4#32
  let c0_i32_252 : BitVec 32 := 0#32
  let v365 : BitVec 1 := Scalar.cmpi .eq c4_i32_251 c0_i32_252
  let c1_i32_253 : BitVec 32 := 1#32
  let v366 : BitVec 32 := Scalar.select v365 c1_i32_253 c4_i32_251
  let v367 : BitVec 32 := Scalar.remsi v364 v366
  let c0_i32_255 : BitVec 32 := 0#32
  let v369 : BitVec 1 := Scalar.cmpi .slt v367 c0_i32_255
  let c0_i32_256 : BitVec 32 := 0#32
  let v370 : BitVec 1 := Scalar.cmpi .slt v366 c0_i32_256
  let v371 : BitVec 1 := Scalar.xori v369 v370
  let c0_i32_254 : BitVec 32 := 0#32
  let v368 : BitVec 1 := Scalar.cmpi .ne v367 c0_i32_254
  let v372 : BitVec 1 := Scalar.andi v371 v368
  let v373 : BitVec 32 := Scalar.addi v367 v366
  let v374 : BitVec 32 := Scalar.select v372 v373 v367
  let c192_i32_290 : BitVec 32 := 192#32
  let c0_i32_291 : BitVec 32 := 0#32
  ![v374.toNat, 192, 0]
def k0_off17 (d0 : Dev nD) (c1_i32_250 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v364 : BitVec 32 := Scalar.addi v2 c1_i32_250
  let c4_i32_251 : BitVec 32 := 4#32
  let c0_i32_252 : BitVec 32 := 0#32
  let v365 : BitVec 1 := Scalar.cmpi .eq c4_i32_251 c0_i32_252
  let c1_i32_253 : BitVec 32 := 1#32
  let v366 : BitVec 32 := Scalar.select v365 c1_i32_253 c4_i32_251
  let v367 : BitVec 32 := Scalar.remsi v364 v366
  let c0_i32_255 : BitVec 32 := 0#32
  let v369 : BitVec 1 := Scalar.cmpi .slt v367 c0_i32_255
  let c0_i32_256 : BitVec 32 := 0#32
  let v370 : BitVec 1 := Scalar.cmpi .slt v366 c0_i32_256
  let v371 : BitVec 1 := Scalar.xori v369 v370
  let c0_i32_254 : BitVec 32 := 0#32
  let v368 : BitVec 1 := Scalar.cmpi .ne v367 c0_i32_254
  let v372 : BitVec 1 := Scalar.andi v371 v368
  let v373 : BitVec 32 := Scalar.addi v367 v366
  let v374 : BitVec 32 := Scalar.select v372 v373 v367
  let v413 : Index := Scalar.indexCast v374
  let c0_296 : Index := 0#32
  let c0_297 : Index := 0#32
  ![v413.toNat, 0, 0]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x512 : Shape := ⟨2, ![1024, 512]⟩
abbrev S512x16 : Shape := ⟨2, ![512, 16]⟩
abbrev S1024x1 : Shape := ⟨2, ![1024, 1]⟩
abbrev S16x512x1024 : Shape := ⟨3, ![16, 512, 1024]⟩
abbrev S1024 : Shape := ⟨1, ![1024]⟩
abbrev S1x1024 : Shape := ⟨2, ![1, 1024]⟩
abbrev S1024x1024 : Shape := ⟨2, ![1024, 1024]⟩
abbrev S_ : Shape := ⟨0, ![]⟩
abbrev S16 : Shape := ⟨1, ![16]⟩
abbrev S1x16 : Shape := ⟨2, ![1, 16]⟩
abbrev S1024x16 : Shape := ⟨2, ![1024, 16]⟩
abbrev S1024x16x1024 : Shape := ⟨3, ![1024, 16, 1024]⟩
abbrev S1024x16x1 : Shape := ⟨3, ![1024, 16, 1]⟩

abbrev nBuf : Space → Nat
  | .hbm => 40
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S512x16, .bf16⟩
  | .hbm, ⟨2, _⟩ => ⟨S1024x1, .i32⟩
  | .hbm, ⟨3, _⟩ => ⟨S16x512x1024, .bf16⟩
  | .hbm, ⟨4, _⟩ => ⟨S1024, .i32⟩
  | .hbm, ⟨5, _⟩ => ⟨S1x1024, .i32⟩
  | .hbm, ⟨6, _⟩ => ⟨S1024x1024, .i32⟩
  | .hbm, ⟨7, _⟩ => ⟨S1024x1024, .i32⟩
  | .hbm, ⟨8, _⟩ => ⟨S1024x1024, .i1⟩
  | .hbm, ⟨9, _⟩ => ⟨S1x1024, .i32⟩
  | .hbm, ⟨10, _⟩ => ⟨S1024x1, .i32⟩
  | .hbm, ⟨11, _⟩ => ⟨S1024x1024, .i32⟩
  | .hbm, ⟨12, _⟩ => ⟨S1024x1024, .i32⟩
  | .hbm, ⟨13, _⟩ => ⟨S1024x1024, .i1⟩
  | .hbm, ⟨14, _⟩ => ⟨S1024x1024, .i1⟩
  | .hbm, ⟨15, _⟩ => ⟨S1024x1024, .i32⟩
  | .hbm, ⟨16, _⟩ => ⟨S_, .i32⟩
  | .hbm, ⟨17, _⟩ => ⟨S1024, .i32⟩
  | .hbm, ⟨18, _⟩ => ⟨S1024x1, .i32⟩
  | .hbm, ⟨19, _⟩ => ⟨S16, .i32⟩
  | .hbm, ⟨20, _⟩ => ⟨S1x16, .i32⟩
  | .hbm, ⟨21, _⟩ => ⟨S1024x16, .i32⟩
  | .hbm, ⟨22, _⟩ => ⟨S1024x16, .i32⟩
  | .hbm, ⟨23, _⟩ => ⟨S1024x16, .i1⟩
  | .hbm, ⟨24, _⟩ => ⟨S_, .i32⟩
  | .hbm, ⟨25, _⟩ => ⟨S1024x1, .i32⟩
  | .hbm, ⟨26, _⟩ => ⟨S1024x1, .i1⟩
  | .hbm, ⟨27, _⟩ => ⟨S1024x16, .i1⟩
  | .hbm, ⟨28, _⟩ => ⟨S1024x16, .i1⟩
  | .hbm, ⟨29, _⟩ => ⟨S1024x512, .f32⟩
  | .hbm, ⟨30, _⟩ => ⟨S16x512x1024, .f32⟩
  | .hbm, ⟨31, _⟩ => ⟨S1024x16x1024, .f32⟩
  | .hbm, ⟨32, _⟩ => ⟨S1024x16x1, .i1⟩
  | .hbm, ⟨33, _⟩ => ⟨S_, .f32⟩
  | .hbm, ⟨34, _⟩ => ⟨S_, .f32⟩
  | .hbm, ⟨35, _⟩ => ⟨S1024x16x1024, .i1⟩
  | .hbm, ⟨36, _⟩ => ⟨S1024x16x1024, .f32⟩
  | .hbm, ⟨37, _⟩ => ⟨S1024x16x1024, .f32⟩
  | .hbm, ⟨38, _⟩ => ⟨S_, .f32⟩
  | .hbm, ⟨39, _⟩ => ⟨S1024x1024, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Proof.KernelIdeal.Geom.lean ====
/-
  The geometry of the exchange: which device a signal or a copy goes to, the semaphores by name, and the windows of
  the two scratch buffers the copies read and write.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdealProof

open Cert.KernelIdeal Cert.KernelIdeal.Gen

open Idealize.ShloMosaic
open Idealize.ShloMosaic.TcCoe

/-! ## The devices -/

set_option backward.proofsInPublic true in
/-- The device `d + 1` places after `c`: where `c`'s signal and copies number `d` go. -/
def fwd (d : Fin 3) (c : Dev nD) : Dev nD := ⟨(c.val + d.val + 1) % 4, Nat.mod_lt _ (by decide)⟩
set_option backward.proofsInPublic true in
/-- The device `d + 1` places before `c`: the one whose signal and copies number `d` come to `c`. -/
def back (d : Fin 3) (c : Dev nD) : Dev nD := ⟨(c.val + 3 - d.val) % 4, Nat.mod_lt _ (by decide)⟩

theorem back_fwd (d : Fin 3) (c : Dev nD) : back d (fwd d c) = c := by revert d c; decide
theorem fwd_back (d : Fin 3) (c : Dev nD) : fwd d (back d c) = c := by revert d c; decide
theorem back_eq_fwd (d : Fin 3) (c : Dev nD) : back d c = fwd d.rev c := by revert d c; decide
theorem fwd_ne (d : Fin 3) (c : Dev nD) : fwd d c ≠ c := by revert d c; decide
theorem fwd_inj {d d' : Fin 3} {c : Dev nD} (h : fwd d c = fwd d' c) : d = d' := by revert d d' c; decide
theorem eq_fwd_of_ne {k c : Dev nD} (h : k ≠ c) : ∃ d, fwd d c = k := by revert k c; decide

/-! ## The memrefs and the semaphores -/

abbrev xM : Memref sig .tc .vmem S1024x512 .bf16 := Memref.whole cc0_stg0_0
abbrev rM : Memref sig .tc .vmem S1024x1 .i32 := Memref.whole cc0_stg1_0
abbrev wM : Memref sig .tc .vmem S4x512x1024 .bf16 := Memref.whole cc0_stg2_0
abbrev oM : Memref sig .tc .vmem S1024x1024 .f32 := Memref.whole cc0_stg3_0
abbrev sendM : Memref sig .tc .vmem S256x1024 .bf16 := Memref.whole cc0_scratch0
abbrev commM : Memref sig .tc .vmem S4x256x1024 .bf16 := Memref.whole cc0_scratch1

/-- The barrier semaphore of the launch. -/
abbrev barS : Sem sig := (SemArray.scalar (sig.barrier 0 rfl) : Sems sig S_).sem

set_option backward.proofsInPublic true in
/-- The semaphore the copy of expert `j` to the `d`-th device signals when its source is read. -/
def sS (d : Fin 3) (j : Fin 4) : DmaSem sig := ⟨4 + 4 * d.val + j.val, by show _ < 32; omega⟩
set_option backward.proofsInPublic true in
/-- The semaphore the copy of expert `j` from device `k` signals when it has landed. -/
def rS (k : Dev nD) (j : Fin 4) : DmaSem sig := ⟨16 + 4 * k.val + j.val, by have := k.isLt; have : k.val < 4 := this; show _ < 32; omega⟩

abbrev barCell (c : Dev nD) : GSem nD τ sig := ((c : Thread nD τ), .reg barS)
abbrev sendCell (c : Dev nD) (d : Fin 3) (j : Fin 4) : GSem nD τ sig := ((c : Thread nD τ), .dma (sS d j))
abbrev recvCell (c : Dev nD) (k : Dev nD) (j : Fin 4) : GSem nD τ sig := ((c : Thread nD τ), .dma (rS k j))

/-- Which copy's send semaphore a semaphore is, if it is one. -/
def sIdx (q : DmaSem sig) : Option (Fin 3 × Fin 4) :=
  if h : 4 ≤ q.val ∧ q.val < 16 then some (⟨(q.val - 4) / 4, by omega⟩, ⟨q.val % 4, by omega⟩) else none
/-- Which copy's receive semaphore a semaphore is, if it is one. -/
def rIdx (q : DmaSem sig) : Option (Dev nD × Fin 4) :=
  if h : 16 ≤ q.val ∧ q.val < 32 then some (⟨(q.val - 16) / 4, by show _ < 4; omega⟩, ⟨q.val % 4, by omega⟩) else none

theorem sIdx_sS (d : Fin 3) (j : Fin 4) : sIdx (sS d j) = some (d, j) := by revert d j; decide
theorem rIdx_rS (k : Dev nD) (j : Fin 4) : rIdx (rS k j) = some (k, j) := by revert k j; decide
theorem rIdx_sS (d : Fin 3) (j : Fin 4) : rIdx (sS d j) = none := by revert d j; decide
theorem sIdx_rS (k : Dev nD) (j : Fin 4) : sIdx (rS k j) = none := by revert k j; decide

/-! ## The windows -/

theorem inb_src (j : Fin 4) : ∀ a, (![64 * j.val, 0] : Fin 2 → Nat) a + S56x1024.size a ≤ S256x1024.size a := by revert j; decide
theorem inb_blk (j : Fin 4) : ∀ a, (![64 * j.val, 0] : Fin 2 → Nat) a + S64x1024.size a ≤ S256x1024.size a := by revert j; decide
theorem inb_dst (k : Dev nD) (j : Fin 4) : ∀ a, (![k.val, 64 * j.val, 0] : Fin 3 → Nat) a + S1x56x1024.size a ≤ S4x256x1024.size a := by
  revert k j; decide
theorem inb_slot (k : Dev nD) : ∀ a, (![k.val, 0, 0] : Fin 3 → Nat) a + S1x256x1024.size a ≤ S4x256x1024.size a := by revert k; decide
theorem inb_w (j : Fin 4) : ∀ a, (![j.val, 0, 0] : Fin 3 → Nat) a + S1x512x1024.size a ≤ S4x512x1024.size a := by revert j; decide

/-- The rows of the send buffer the copies of expert `j` read. -/
abbrev srcW (j : Fin 4) : Memref sig .tc .vmem S56x1024 .bf16 :=
  sendM.slice (Rect.unit (s := S256x1024) ![64 * j.val, 0] S56x1024.size (inb_src j)) (fun _ => rfl)
/-- The rows of the receive buffer the copy of expert `j` from device `k` writes. -/
abbrev dstW (k : Dev nD) (j : Fin 4) : Memref sig .tc .vmem S56x1024 .bf16 :=
  (commM.slice (Rect.unit (s := S4x256x1024) ![k.val, 64 * j.val, 0] S1x56x1024.size (inb_dst k j)) (fun _ => rfl)).squeeze
    S56x1024 squeezes_S1x56x1024_S56x1024
/-- The rectangle of the send buffer the block of expert `j` is stored at. -/
abbrev blkR (j : Fin 4) : Rect S256x1024 := Rect.unit (s := S256x1024) ![64 * j.val, 0] S64x1024.size (inb_blk j)
/-- The rectangle of the receive buffer that holds what device `k` sent. -/
abbrev slotR (k : Dev nD) : Rect S4x256x1024 := Rect.unit (s := S4x256x1024) ![k.val, 0, 0] S1x256x1024.size (inb_slot k)
/-- The rectangle of the weights of the device's expert `j`. -/
abbrev wR (j : Fin 4) : Rect S4x512x1024 := Rect.unit (s := S4x512x1024) ![j.val, 0, 0] S1x512x1024.size (inb_w j)

/-- The rows of the send buffer copied for expert `j`. -/
def aset (j : Fin 4) : Finset S256x1024.Idx := Finset.univ.filter fun i => 64 * j.val ≤ (i 0).val ∧ (i 0).val < 64 * j.val + 56
/-- The rows of the send buffer stored for expert `j`. -/
def bset (j : Fin 4) : Finset S256x1024.Idx := Finset.univ.filter fun i => (i 0).val / 64 = j.val
/-- The rows of the receive buffer written for expert `j` of device `k`. -/
def wset (k : Dev nD) (j : Fin 4) : Finset S4x256x1024.Idx :=
  Finset.univ.filter fun i => (i 0).val = k.val ∧ 64 * j.val ≤ (i 1).val ∧ (i 1).val < 64 * j.val + 56

theorem mem_aset {j : Fin 4} {i : S256x1024.Idx} : i ∈ aset j ↔ 64 * j.val ≤ (i 0).val ∧ (i 0).val < 64 * j.val + 56 := by simp [aset]
theorem mem_bset {j : Fin 4} {i : S256x1024.Idx} : i ∈ bset j ↔ (i 0).val / 64 = j.val := by simp [bset]
theorem mem_wset {k : Dev nD} {j : Fin 4} {i : S4x256x1024.Idx} :
    i ∈ wset k j ↔ (i 0).val = k.val ∧ 64 * j.val ≤ (i 1).val ∧ (i 1).val < 64 * j.val + 56 := by simp [wset]

theorem aset_subset (j : Fin 4) : aset j ⊆ bset j := fun i h => by
  rw [mem_aset] at h; rw [mem_bset]; omega

theorem wset_disjoint {k k' : Dev nD} {j j' : Fin 4} (h : (k, j) ≠ (k', j')) : Disjoint (wset k j) (wset k' j') := by
  rw [Finset.disjoint_left]
  intro i hi hi'
  rw [mem_wset] at hi hi'
  refine h (Prod.ext (Fin.ext (by simp only; omega)) (Fin.ext (by simp only; omega)))

theorem srcW_set (j : Fin 4) : (srcW j).view.set = aset j := by
  show ((View.whole cc0_scratch0).slice _).set = _
  rw [View.set_slice, View.emb_whole, Finset.map_refl]
  ext i
  rw [Rect.mem_set_unit, mem_aset]
  constructor
  · intro h; exact h (0 : Fin 2)
  · intro h a
    match a with
    | ⟨0, _⟩ => exact h
    | ⟨1, _⟩ => exact ⟨Nat.zero_le _, by have : (i 1).val < 1024 := (i 1).isLt; simpa using this⟩

theorem blkR_set (j : Fin 4) : (sendM.access (blkR j) : View sig .tc _ _ _).set = bset j := by
  show ((View.whole cc0_scratch0).slice _).set = _
  rw [View.set_slice, View.emb_whole, Finset.map_refl]
  ext i
  rw [Rect.mem_set_unit, mem_bset]
  constructor
  · intro h
    have h0 : 64 * j.val ≤ (i 0).val ∧ (i 0).val < 64 * j.val + 64 := h (0 : Fin 2)
    omega
  · intro h a
    match a with
    | ⟨0, _⟩ => show 64 * j.val ≤ (i 0).val ∧ (i 0).val < 64 * j.val + 64; omega
    | ⟨1, _⟩ => exact ⟨Nat.zero_le _, by have : (i 1).val < 1024 := (i 1).isLt; simpa using this⟩

theorem dstW_set (k : Dev nD) (j : Fin 4) : (dstW k j).view.set = wset k j := by
  show (((View.whole cc0_scratch1).slice _).reshape _ _).set = _
  rw [View.set_reshape, View.set_slice, View.emb_whole, Finset.map_refl]
  ext i
  rw [Rect.mem_set_unit, mem_wset]
  constructor
  · intro h
    have h0 : k.val ≤ (i 0).val ∧ (i 0).val < k.val + 1 := h (0 : Fin 3)
    exact ⟨by omega, h (1 : Fin 3)⟩
  · intro h a
    match a with
    | ⟨0, _⟩ => show k.val ≤ (i 0).val ∧ (i 0).val < k.val + 1; omega
    | ⟨1, _⟩ => exact h.2
    | ⟨2, _⟩ =>
      have h2 : (i 2).val < 1024 := (i 2).isLt
      exact ⟨Nat.zero_le _, show (i 2).val < 0 + 1024 by omega⟩

/-- Where row `y` of the rows copied for expert `j` lies in the send buffer. -/
theorem srcW_emb_0 (j : Fin 4) (y : S56x1024.Idx) : (((srcW j).view.emb y : S256x1024.Idx) 0).val = 64 * j.val + (y 0).val := by
  show 64 * j.val + 1 * (y 0).val = _
  omega
theorem srcW_emb_1 (j : Fin 4) (y : S56x1024.Idx) : (((srcW j).view.emb y : S256x1024.Idx) 1).val = (y 1).val := by
  show 0 + 1 * (y 1).val = _
  omega

/-- Where row `y` of them lands in the receive buffer. -/
theorem dstW_emb (k : Dev nD) (j : Fin 4) (y : S56x1024.Idx) :
    (((dstW k j).view.emb y : S4x256x1024.Idx) 0).val = k.val ∧ (((dstW k j).view.emb y : S4x256x1024.Idx) 1).val = 64 * j.val + (y 0).val
      ∧ (((dstW k j).view.emb y : S4x256x1024.Idx) 2).val = (y 1).val := by
  have e : Shape.reshapeEquiv squeezes_S1x56x1024_S56x1024.numel_eq y = (Fin.cons ⟨0, Nat.one_pos⟩ y : S1x56x1024.Idx) :=
    Shape.reshapeEquiv_cons_one _ y
  have e' : (dstW k j).view.emb y = (Rect.unit (s := S4x256x1024) ![k.val, 64 * j.val, 0] S1x56x1024.size (inb_dst k j)).emb
      (Fin.cons ⟨0, Nat.one_pos⟩ y : S1x56x1024.Idx) := by
    rw [← e]; rfl
  rw [e']
  refine ⟨?_, ?_, ?_⟩
  · show k.val + 1 * 0 = _; omega
  · show 64 * j.val + 1 * (y 0).val = _; omega
  · show 0 + 1 * (y 1).val = _; omega

/-! ## The kernel's own offsets, devices and semaphores are these -/

theorem dev1_eq (c : Dev nD) : (⟨k0_dev1 c, k0_dev1_lt c⟩ : Dev nD) = fwd 0 c := by revert c; decide +kernel
theorem dev2_eq (c : Dev nD) : (⟨k0_dev2 c, k0_dev2_lt c⟩ : Dev nD) = fwd 1 c := by revert c; decide +kernel
theorem dev3_eq (c : Dev nD) : (⟨k0_dev3 c, k0_dev3_lt c⟩ : Dev nD) = fwd 2 c := by revert c; decide +kernel
theorem dev4_eq (c : Dev nD) : (⟨k0_dev4 c, k0_dev4_lt c⟩ : Dev nD) = fwd 0 c := by revert c; decide +kernel
theorem dev5_eq (c : Dev nD) : (⟨k0_dev5 c, k0_dev5_lt c⟩ : Dev nD) = fwd 1 c := by revert c; decide +kernel
theorem dev6_eq (c : Dev nD) : (⟨k0_dev6 c, k0_dev6_lt c⟩ : Dev nD) = fwd 2 c := by revert c; decide +kernel
theorem dev7_eq (c : Dev nD) : (⟨k0_dev7 c, k0_dev7_lt c⟩ : Dev nD) = fwd 0 c := by revert c; decide +kernel
theorem dev8_eq (c : Dev nD) : (⟨k0_dev8 c, k0_dev8_lt c⟩ : Dev nD) = fwd 1 c := by revert c; decide +kernel
theorem dev9_eq (c : Dev nD) : (⟨k0_dev9 c, k0_dev9_lt c⟩ : Dev nD) = fwd 2 c := by revert c; decide +kernel
theorem dev10_eq (c : Dev nD) : (⟨k0_dev10 c, k0_dev10_lt c⟩ : Dev nD) = fwd 0 c := by revert c; decide +kernel
theorem dev11_eq (c : Dev nD) : (⟨k0_dev11 c, k0_dev11_lt c⟩ : Dev nD) = fwd 1 c := by revert c; decide +kernel
theorem dev12_eq (c : Dev nD) : (⟨k0_dev12 c, k0_dev12_lt c⟩ : Dev nD) = fwd 2 c := by revert c; decide +kernel
theorem dev13_eq (c : Dev nD) : (⟨k0_dev13 c, k0_dev13_lt c⟩ : Dev nD) = fwd 0 c := by revert c; decide +kernel
theorem dev14_eq (c : Dev nD) : (⟨k0_dev14 c, k0_dev14_lt c⟩ : Dev nD) = fwd 1 c := by revert c; decide +kernel
theorem dev15_eq (c : Dev nD) : (⟨k0_dev15 c, k0_dev15_lt c⟩ : Dev nD) = fwd 2 c := by revert c; decide +kernel

/-- A window of the receive buffer at an offset equal to a named one is the named window. -/
theorem dst_congr {off : Fin 3 → Nat} {k : Dev nD} {j : Fin 4} (h : off = ![k.val, 64 * j.val, 0])
    (inb : ∀ a, off a + S1x56x1024.size a ≤ S4x256x1024.size a) :
    (commM.slice (Rect.unit (s := S4x256x1024) off S1x56x1024.size inb) (fun _ => rfl)).squeeze S56x1024 squeezes_S1x56x1024_S56x1024
      = dstW k j := by
  subst h; rfl
/-- A rectangle of a slot at an offset equal to a named one is the named rectangle. -/
theorem slot_congr {off : Fin 3 → Nat} {k : Dev nD} (h : off = ![k.val, 0, 0])
    (inb : ∀ a, off a + S1x256x1024.size a ≤ S4x256x1024.size a) :
    Rect.unit (s := S4x256x1024) off S1x256x1024.size inb = slotR k := by
  subst h; rfl

/-- A receive semaphore at an offset equal to a named one is the named semaphore. -/
theorem rsem_congr {off : Fin 2 → Nat} {k : Dev nD} {j : Fin 4} (h : off = ![k.val, j.val])
    (inb : ∀ a, off a + S1x1.size a ≤ S4x4.size a) :
    ((cc0_scratch3.slice (Rect.unit (s := S4x4) off S1x1.size inb)).squeeze S_ squeezes_S1x1_S_).sem = rS k j := by
  subst h
  revert k j
  decide +kernel
/-- A send semaphore at an offset equal to a named one is the named semaphore. -/
theorem ssem_congr {off : Fin 2 → Nat} {d : Fin 3} {j : Fin 4} (h : off = ![d.val, j.val])
    (inb : ∀ a, off a + S1x1.size a ≤ S3x4.size a) :
    ((cc0_scratch2.slice (Rect.unit (s := S3x4) off S1x1.size inb)).squeeze S_ squeezes_S1x1_S_).sem = sS d j := by
  subst h
  revert d j
  decide +kernel

theorem off1_eq (c : Dev nD) : k0_off1 c = ![c.val, (0 : Fin 4).val] := by revert c; decide +kernel
theorem off2_eq (c : Dev nD) : k0_off2 c = ![c.val, 64 * (0 : Fin 4).val, 0] := by revert c; decide +kernel
theorem off3_eq (c : Dev nD) : k0_off3 c = ![c.val, (1 : Fin 4).val] := by revert c; decide +kernel
theorem off4_eq (c : Dev nD) : k0_off4 c = ![c.val, 64 * (1 : Fin 4).val, 0] := by revert c; decide +kernel
theorem off5_eq (c : Dev nD) : k0_off5 c = ![c.val, (2 : Fin 4).val] := by revert c; decide +kernel
theorem off6_eq (c : Dev nD) : k0_off6 c = ![c.val, 64 * (2 : Fin 4).val, 0] := by revert c; decide +kernel
theorem off7_eq (c : Dev nD) : k0_off7 c = ![c.val, (3 : Fin 4).val] := by revert c; decide +kernel
theorem off8_eq (c : Dev nD) : k0_off8 c = ![c.val, 64 * (3 : Fin 4).val, 0] := by revert c; decide +kernel

/-- The word the kernel adds to its own number to name the `d`-th device after it. -/
abbrev stepW (d : Fin 3) : BitVec 32 := BitVec.ofNat 32 (1 + d.val)

theorem off9_eq (c : Dev nD) (d : Fin 3) : k0_off9 c (stepW d) = ![(fwd d c).val, (0 : Fin 4).val] := by revert c d; decide +kernel
theorem off10_eq (c : Dev nD) (d : Fin 3) : k0_off10 c (stepW d) = ![(fwd d c).val, 64 * (0 : Fin 4).val, 0] := by revert c d; decide +kernel
theorem off11_eq (c : Dev nD) (d : Fin 3) : k0_off11 c (stepW d) = ![(fwd d c).val, (1 : Fin 4).val] := by revert c d; decide +kernel
theorem off12_eq (c : Dev nD) (d : Fin 3) : k0_off12 c (stepW d) = ![(fwd d c).val, 64 * (1 : Fin 4).val, 0] := by revert c d; decide +kernel
theorem off13_eq (c : Dev nD) (d : Fin 3) : k0_off13 c (stepW d) = ![(fwd d c).val, (2 : Fin 4).val] := by revert c d; decide +kernel
theorem off14_eq (c : Dev nD) (d : Fin 3) : k0_off14 c (stepW d) = ![(fwd d c).val, 64 * (2 : Fin 4).val, 0] := by revert c d; decide +kernel
theorem off15_eq (c : Dev nD) (d : Fin 3) : k0_off15 c (stepW d) = ![(fwd d c).val, (3 : Fin 4).val] := by revert c d; decide +kernel
theorem off16_eq (c : Dev nD) (d : Fin 3) : k0_off16 c (stepW d) = ![(fwd d c).val, 64 * (3 : Fin 4).val, 0] := by revert c d; decide +kernel
theorem off17_eq (c : Dev nD) (d : Fin 3) : k0_off17 c (stepW d) = ![(fwd d c).val, 0, 0] := by revert c d; decide +kernel

end Cert.KernelIdealProof

end
-- ==== Proof.KernelIdeal.Sched.lean ====
/-
  The protocol of the exchange: what the buffers hold, what each semaphore's signal hands over, what each device owes
  at the start, and the order in which the semaphores may be waited for.
-/
module

public import proofs.«01_k».proof.Proof.KernelIdeal.Geom
public import Idealize.ShloMosaic.Lib.ValueIdxCore

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's duties and the exchange's -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-- The credit of one copy. -/
abbrev N : ℕ := (dstW 0 0).view.dmaCredit
theorem N_pos : 0 < N := View.dmaCredit_pos _ (by decide)

/-! ## Contents -/

/-- The tokens as device `c` stages them. -/
def xstg (c : Dev nD) : (cc0_stg0_0 : Ref sig .tc).ty.Contents (Elt F) :=
  (win0_0.blk (0 : Fin 1)).view.read (Elt F) (m ((c : Thread nD τ).loc main_arg0))
/-- The expert numbers as device `c` stages them. -/
def rstg (c : Dev nD) : (cc0_stg1_0 : Ref sig .tc).ty.Contents (Elt F) :=
  (win0_1.blk (0 : Fin 1)).view.read (Elt F) (m ((c : Thread nD τ).loc main_arg2))
/-- The weights of device `c`'s experts as it stages them. -/
def wstg (c : Dev nD) : (cc0_stg2_0 : Ref sig .tc).ty.Contents (Elt F) :=
  (win0_2.blk (0 : Fin 1)).view.read (Elt F) (m ((c : Thread nD τ).loc main_arg3))

/-- The weights of device `c`'s expert `j`. -/
def wj (c : Dev nD) (j : Fin 4) : Vec F S1x512x1024 .bf16 := wM.view.readAt (Elt F) (wR j).toLoadRect (wstg m c)

/-- The matrix that gathers the tokens of device `c`'s experts. -/
abbrev selM (c : Dev nD) : FVec F S1024x256 .bf16 := k0_pay2 c (rstg m c)
/-- The gathered tokens. -/
abbrev gath (c : Dev nD) : FVec F S256x512 .bf16 := k0_pay4 (selM m c) (xstg m c)

/-- What device `c` stores for its expert `j`. -/
def blk (c : Dev nD) (j : Fin 4) : FVec F S64x1024 .bf16 :=
  match j with
  | 0 => k0_pay5 (selM m c) (xstg m c) (wj m c 0)
  | 1 => k0_pay6 (gath m c) (wj m c 1)
  | 2 => k0_pay7 (gath m c) (wj m c 2)
  | 3 => k0_pay8 (gath m c) (wj m c 3)

/-- The send buffer of device `c`, all four experts stored. -/
def sendF (c : Dev nD) : S256x1024.Idx → Elt F .bf16 := fun i =>
  blk m c ⟨(i 0).val / 64, by have : (i 0).val < 256 := (i 0).isLt; omega⟩ (ix2 ⟨(i 0).val % 64, by omega⟩ (i 1))

/-- The receive buffer as the kernel clears it. -/
def zeroF : S4x256x1024.Idx → Elt F .bf16 := k0_pay3

/-- The device whose copies fill an element of the receive buffer. -/
abbrev slotOf (i : S4x256x1024.Idx) : Dev nD := ⟨(i 0).val, (i 0).isLt⟩

/-- The receive buffer of device `c` with every copy landed: of each other device's rows the ones copied, and zero. -/
def commF (c : Dev nD) : S4x256x1024.Idx → Elt F .bf16 := fun i =>
  if slotOf i ≠ c ∧ (i 1).val % 64 < 56 then sendF m (slotOf i) (ix2 (i 1) (i 2)) else zeroF i

theorem commF_window {c k : Dev nD} {j : Fin 4} (hk : k ≠ c) (y : S56x1024.Idx) :
    commF m c ((dstW k j).view.emb y) = sendF m k ((srcW j).view.emb y) := by
  obtain ⟨h0, h1, h2⟩ := dstW_emb k j y
  have h0' : slotOf ((dstW k j).view.emb y : S4x256x1024.Idx) = k := Fin.ext h0
  have hy : (y 0).val < 56 := (y 0).isLt
  unfold commF
  rw [if_pos ⟨by rw [h0']; exact hk, by rw [h1]; omega⟩, h0']
  congr 1
  rw [eq_ix2 (n0 := 256) (n1 := 1024) ((srcW j).view.emb y : S256x1024.Idx)]
  congr 1
  · exact Fin.ext (by rw [h1, srcW_emb_0])
  · exact Fin.ext (by rw [h2, srcW_emb_1])

/-- Off the windows of the other devices' copies the receive buffer is still cleared. -/
theorem commF_rest {c : Dev nD} {i : S4x256x1024.Idx} (h : ∀ (d : Fin 3) (j : Fin 4), i ∉ wset (fwd d c) j) : commF m c i = zeroF i := by
  unfold commF
  refine if_neg fun hn => ?_
  obtain ⟨d, hd⟩ := eq_fwd_of_ne hn.1
  have hd' : (fwd d c).val = (i 0).val := congrArg Fin.val hd
  have h1 : (i 1).val < 256 := (i 1).isLt
  refine h d ⟨(i 1).val / 64, by omega⟩ (mem_wset.mpr ⟨hd'.symm, ?_, ?_⟩) <;> simp only <;> omega

/-! ## What a signal hands over -/

/-- The shares in which a device's sent rows are lent to its three copies; a fourth is kept. -/
def qs (d : Fin 3) : PosShare TreeShare :=
  match d with
  | 0 => fullShare.right.left
  | 1 => fullShare.right.right.left
  | 2 => fullShare.right.right.right

/-- The window of the copy of expert `j` from `k`, in the receive buffer of device `h`. -/
def winPts (h k : Dev nD) (j : Fin 4) (f : S4x256x1024.Idx → Elt F .bf16) : sProp 𝕄 :=
  commM.view.loc (h : Thread nD τ) ↦[wset k j]{fullShare} f

/-- The rows a copy reads, lent to it. -/
def sendPay (c : Dev nD) (d : Fin 3) (j : Fin 4) : sProp 𝕄 :=
  sendM.view.loc (c : Thread nD τ) ↦[aset j]{qs d} sendF m c

/-- What signal `d` to device `t` hands it: the four windows of the signalling device's cleared receive buffer that
    `t`'s copies are to fill. -/
def barPay (t : Dev nD) (d : Fin 3) : sProp 𝕄 := bigSep Finset.univ fun j : Fin 4 => winPts (back d t) t j (zeroF (F := F))

omit [FloatOps F] in
instance winPts_storable (h k : Dev nD) (j : Fin 4) (f) : BI.Storable (upEmb : UEmb _ 𝕄) (winPts (F := F) h k j f) := by unfold winPts; infer_instance
instance sendPay_storable (c : Dev nD) (d : Fin 3) (j : Fin 4) : BI.Storable (upEmb : UEmb _ 𝕄) (sendPay m c d j) := by unfold sendPay; infer_instance
instance barPay_storable (t : Dev nD) (d : Fin 3) : BI.Storable (upEmb : UEmb _ 𝕄) (barPay (F := F) t d) := by unfold barPay; infer_instance

/-! ## The schedule -/

/-- The duties of a cell in the one round: a barrier's three, a send semaphore's one, a receive semaphore's one if it is
    another device's. -/
def dutiesOf (c : Dev nD) : SemLoc sig → Finset (Fin 3)
  | .reg _ => Finset.univ
  | .dma q => match sIdx q, rIdx q with
    | some _, _ => {0}
    | none, some p => if p.1 = c then ∅ else {0}
    | none, none => ∅

/-- What a duty hands over. -/
def payOf (c : Dev nD) (d : Fin 3) : SemLoc sig → sProp 𝕄
  | .reg _ => barPay c d
  | .dma q => match sIdx q, rIdx q with
    | some p, _ => sendPay m c p.1 p.2
    | none, some p => winPts c p.1 p.2 (commF m c)
    | none, none => iprop(emp)

/-- What a duty adds to the counter. -/
def amtOf : SemLoc sig → ℕ
  | .reg _ => 1
  | .dma _ => N

theorem amtOf_pos (s : SemLoc sig) : 0 < amtOf s := by
  cases s
  · exact Nat.one_pos
  · exact N_pos

def sch : Rounds.Schedule (GSem nD τ sig) (Fin 3) 𝕄 where
  duties g r := if r = 0 ∧ g.1.2 = .tc then dutiesOf g.1.1 g.2 else ∅
  unitless _ := False
  amount g _ _ := amtOf g.2
  payload g _ d := payOf m g.1.1 d g.2
  amount_pos g _ _ _ := amtOf_pos g.2

instance sch_payload_storable (g : GSem nD τ sig) (r : ℕ) (d : Fin 3) :
    BI.Storable (upEmb : UEmb _ 𝕄) ((sch (F := F) m).payload g r d) := by
  show BI.Storable upEmb (payOf m g.1.1 d g.2)
  unfold payOf
  (repeat' split) <;> infer_instance

section Facts
variable (c : Dev nD)

theorem duties_tc (s : SemLoc sig) : (sch (F := F) m).duties ((c : Thread nD τ), s) 0 = dutiesOf c s := by
  dsimp only [sch]; exact if_pos ⟨rfl, rfl⟩
theorem duties_bar : (sch (F := F) m).duties (barCell c) 0 = Finset.univ := duties_tc m c _
theorem duties_send (d : Fin 3) (j : Fin 4) : (sch (F := F) m).duties (sendCell c d j) 0 = {0} := by
  rw [duties_tc]; simp only [dutiesOf, sIdx_sS]
theorem duties_recv {k : Dev nD} (j : Fin 4) (h : k ≠ c) : (sch (F := F) m).duties (recvCell c k j) 0 = {0} := by
  rw [duties_tc]; simp only [dutiesOf, sIdx_rS, rIdx_rS]; rw [if_neg h]
theorem duties_later (g : GSem nD τ sig) : ∀ r, 1 ≤ r → (sch (F := F) m).duties g r = ∅ := fun r hr => if_neg fun h => by have := h.1; omega
theorem duties_own (j : Fin 4) : ∀ r, 0 ≤ r → (sch (F := F) m).duties (recvCell c c j) r = ∅ := fun r _ => by
  by_cases hr : r = 0
  · subst hr; rw [duties_tc]; simp only [dutiesOf, sIdx_rS, rIdx_rS]; exact if_pos trivial
  · exact if_neg fun h => hr h.1

theorem amount_bar (d : Fin 3) : (sch (F := F) m).amount (barCell c) 0 d = 1 := rfl
theorem amount_send (d : Fin 3) (j : Fin 4) (e : Fin 3) : (sch (F := F) m).amount (sendCell c d j) 0 e = N := rfl
theorem amount_recv (k : Dev nD) (j : Fin 4) (e : Fin 3) : (sch (F := F) m).amount (recvCell c k j) 0 e = N := rfl

theorem expect_bar : (sch (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send (d : Fin 3) (j : Fin 4) : (sch (F := F) m).expect (sendCell c d j) 0 = N := by
  unfold Schedule.expect Schedule.amountOf; rw [duties_send, Finset.sum_singleton, amount_send]
theorem expect_recv {k : Dev nD} (j : Fin 4) (h : k ≠ c) : (sch (F := F) m).expect (recvCell c k j) 0 = N := by
  unfold Schedule.expect Schedule.amountOf; rw [duties_recv m c j h, Finset.sum_singleton, amount_recv]

theorem payload_bar (d : Fin 3) : (sch (F := F) m).payload (barCell c) 0 d = barPay c d := rfl
theorem payload_send (d : Fin 3) (j : Fin 4) (e : Fin 3) : (sch (F := F) m).payload (sendCell c d j) 0 e = sendPay m c d j := by
  show payOf m c e (.dma (sS d j)) = _
  simp only [payOf, sIdx_sS]
theorem payload_recv (k : Dev nD) (j : Fin 4) (e : Fin 3) : (sch (F := F) m).payload (recvCell c k j) 0 e = winPts c k j (commF m c) := by
  show payOf m c e (.dma (rS k j)) = _
  simp only [payOf, sIdx_rS, rIdx_rS]

/-- What the barrier wait yields: the windows of each signalling device's buffer. -/
theorem rest_bar : bigSep ((sch (F := F) m).duties (barCell c) 0 \ ∅) (fun d => (sch (F := F) m).payload (barCell c) 0 d)
    = bigSep Finset.univ fun d => barPay (F := F) c d := by
  rw [Finset.sdiff_empty, duties_bar]; rfl
theorem rest_send (d : Fin 3) (j : Fin 4) :
    bigSep ((sch (F := F) m).duties (sendCell c d j) 0 \ ∅) (fun e => (sch (F := F) m).payload (sendCell c d j) 0 e) = sendPay m c d j := by
  rw [Finset.sdiff_empty, duties_send, bigSep_singleton, payload_send]
theorem rest_recv {k : Dev nD} (j : Fin 4) (h : k ≠ c) :
    bigSep ((sch (F := F) m).duties (recvCell c k j) 0 \ ∅) (fun e => (sch (F := F) m).payload (recvCell c k j) 0 e) = winPts c k j (commF m c) := by
  rw [Finset.sdiff_empty, duties_recv m c j h, bigSep_singleton, payload_recv]

end Facts

/-! ## What each device owes, and the levels -/

/-- The copies in the order they start. -/
def allP : List (Fin 3 × Fin 4) := [(0, 0), (1, 0), (2, 0), (0, 1), (1, 1), (2, 1), (0, 2), (1, 2), (2, 2), (0, 3), (1, 3), (2, 3)]
/-- The copies in the order their landings are waited for. -/
def recvP : List (Fin 3 × Fin 4) := [(0, 0), (0, 1), (0, 2), (0, 3), (2, 0), (2, 1), (2, 2), (2, 3), (1, 0), (1, 1), (1, 2), (1, 3)]

/-- What device `c` owes for the copies still to start. -/
def OS (c : Dev nD) : List (Fin 3 × Fin 4) → CellTallies nD τ sig Unit
  | [] => 0
  | p :: l => OS c l + tallyAt (recvCell (fwd p.1 c) c p.2) () N
/-- What it owes with the signals of `l` still to send. -/
def OB (c : Dev nD) : List (Fin 3) → CellTallies nD τ sig Unit
  | [] => OS c allP
  | d :: l => OB c l + tallyAt (barCell (fwd d c)) () 1
/-- What it owes at launch. -/
def O₀ (c : Dev nD) : CellTallies nD τ sig Unit := OB c [0, 1, 2]

def L (g : GSem nD τ sig) : Finset Unit := if g.1.2 = .tc then {()} else ∅
/-- The order of waiting: barriers first, then landings; a staging or a sending semaphore is owed by nobody. -/
def lv (g : GSem nD τ sig) (_ : Unit) : ℕ := match g.2 with
  | .reg _ => 1
  | .dma q => if (rIdx q).isSome then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c k : Dev nD) (j : Fin 4) : lv (recvCell c k j) () = 2 := by simp only [lv, rIdx_rS]; rfl

theorem OS_pos {c : Dev nD} {g : GSem nD τ sig} {u : Unit} : ∀ {l : List (Fin 3 × Fin 4)}, 0 < OS c l g u → ∃ p : Fin 3 × Fin 4, g = recvCell (fwd p.1 c) c p.2
  | [], h => absurd h (Nat.lt_irrefl 0)
  | p :: l, h => by
    unfold OS at h
    rw [Pi.add_apply, Finsupp.add_apply, tallyAt_apply] at h
    by_cases hg : g = recvCell (fwd p.1 c) c p.2 ∧ u = ()
    · exact ⟨p, hg.1⟩
    · rw [if_neg hg, Nat.add_zero] at h; exact OS_pos h
theorem OB_pos {c : Dev nD} {g : GSem nD τ sig} {u : Unit} : ∀ {l : List (Fin 3)}, 0 < OB c l g u →
    (∃ p : Fin 3 × Fin 4, g = recvCell (fwd p.1 c) c p.2) ∨ ∃ d : Fin 3, g = barCell (fwd d c)
  | [], h => Or.inl (OS_pos h)
  | d :: l, h => by
    unfold OB at h
    rw [Pi.add_apply, Finsupp.add_apply, tallyAt_apply] at h
    by_cases hg : g = barCell (fwd d c) ∧ u = ()
    · exact Or.inr ⟨d, hg.1⟩
    · rw [if_neg hg, Nat.add_zero] at h; exact OB_pos h

omit [FloatOps F] in
/-- A staging semaphore may be waited for whatever the device owes. -/
theorem mayWait_stage (c : Dev nD) (q : DmaSem sig) (hq : rIdx q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases OB_pos hg with ⟨p, rfl⟩ | ⟨d, rfl⟩ <;> exact Finset.mem_singleton_self _)
      (fun p hp => by rw [Finset.mem_singleton.mp hp]; simp [lv, hq])
      (fun g u hg => by
        rcases OB_pos hg with ⟨p, rfl⟩ | ⟨d, rfl⟩
        · rw [lv_recv]; decide
        · rw [lv_bar]; decide)
  · rw [MayWait_zero]; iintro -; iempintro

omit [FloatOps F] in
/-- At its barrier wait a device owes landings only, which come after barriers. -/
theorem mayWait_bar (c : Dev nD) : (levAts L lv : sProp 𝕄) ⊢ MayWait (c : Thread nD τ) (.reg barS) () (OS c allP) :=
  MayOwe.of_cut (L := L) (lev := lv) 1 (fun p hp => by rw [Finset.mem_singleton.mp hp, L_tc]; exact Finset.mem_singleton_self _)
    (fun g u hg => by obtain ⟨p, rfl⟩ := OS_pos hg; exact Finset.mem_singleton_self _)
    (fun p hp => by rw [Finset.mem_singleton.mp hp]; exact le_of_eq (lv_bar c))
    (fun g u hg => by obtain ⟨p, rfl⟩ := OS_pos hg; rw [lv_recv]; decide)

end Cert.KernelIdealProof

end
-- ==== Proof.KernelIdeal.Split.lean ====
/-
  How the two scratch buffers are cut: the receive buffer into the windows of the other devices' copies and the rest, the
  send buffer into the four experts' rows, each lent in shares to three copies.
-/
module

public import proofs.«01_k».proof.Proof.KernelIdeal.Sched

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- Two assertions each giving the other are equal. -/
theorem eq_of_entails {P Q : sProp 𝕄} (h : P ⊢ Q) (h' : Q ⊢ P) : P = Q := BI.equiv_iff.mp ⟨h, h'⟩

/-! ## Resources listed -/

/-- The resources of a list, one after the other. -/
def sepL {α : Type} (Φ : α → sProp 𝕄) : List α → sProp 𝕄
  | [] => iprop(emp)
  | p :: l => iprop(Φ p ∗ sepL Φ l)

omit [FloatOps F] in
theorem sepL_cons {α : Type} (Φ : α → sProp 𝕄) (p : α) (l : List α) : sepL Φ (p :: l) = iprop(Φ p ∗ sepL Φ l) := rfl

omit [FloatOps F] in
theorem sepL_nil {α : Type} (Φ : α → sProp 𝕄) : (iprop(emp) : sProp 𝕄) ⊢ sepL Φ [] := Entails.of_eq rfl

omit [FloatOps F] in
/-- Listed without repetition they are the resources of the set of the list. -/
theorem sepL_eq {α : Type} [DecidableEq α] (Φ : α → sProp 𝕄) : ∀ (l : List α), l.Nodup → sepL Φ l = bigSep l.toFinset Φ
  | [], _ => by rw [List.toFinset_nil, bigSep_empty]; rfl
  | p :: l, h => by
    rw [List.nodup_cons] at h
    rw [List.toFinset_cons, bigSep_insert (by rw [List.mem_toFinset]; exact h.1), sepL_cons, sepL_eq Φ l h.2]
    rfl

omit [FloatOps F] in
/-- Two lists of the same elements hold the same resources. -/
theorem sepL_perm {α : Type} [DecidableEq α] (Φ : α → sProp 𝕄) {l l' : List α} (h : l.Nodup) (h' : l'.Nodup) (e : l.toFinset = l'.toFinset) :
    sepL Φ l = sepL Φ l' := by rw [sepL_eq Φ l h, sepL_eq Φ l' h', e]

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-! ## The receive buffer -/

/-- What a device holds of its receive buffer when it has the windows of the devices numbered in `D`, and of no other. -/
def xset (c : Dev nD) (D : Finset (Fin 3)) : Finset S4x256x1024.Idx :=
  Finset.univ.filter fun i => ∀ d : Fin 3, d ∉ D → ∀ j : Fin 4, i ∉ wset (fwd d c) j

theorem mem_xset {c : Dev nD} {D : Finset (Fin 3)} {i : S4x256x1024.Idx} :
    i ∈ xset c D ↔ ∀ d : Fin 3, d ∉ D → ∀ j : Fin 4, i ∉ wset (fwd d c) j := by
  unfold xset; rw [Finset.mem_filter]; exact ⟨fun h => h.2, fun h => ⟨Finset.mem_univ _, h⟩⟩

theorem xset_univ (c : Dev nD) : xset c Finset.univ = Finset.univ :=
  Finset.eq_univ_of_forall fun i => mem_xset.mpr fun d hd => absurd (Finset.mem_univ d) hd

def hold (c : Dev nD) (D : Finset (Fin 3)) (f : S4x256x1024.Idx → Elt F .bf16) : sProp 𝕄 :=
  commM.view.loc (c : Thread nD τ) ↦[xset c D]{fullShare} f

omit [FloatOps F] in
/-- One more device's windows. -/
theorem hold_step (c : Dev nD) {D D' : Finset (Fin 3)} (d : Fin 3) (hd : d ∉ D) (e : D' = insert d D) (f : S4x256x1024.Idx → Elt F .bf16) :
    (hold c D' f : sProp 𝕄) = iprop((bigSep Finset.univ fun j : Fin 4 => winPts c (fwd d c) j f) ∗ hold c D f) := by
  subst e
  unfold hold winPts
  have hu : xset c (insert d D) = (Finset.univ.biUnion fun j : Fin 4 => wset (fwd d c) j) ∪ xset c D := by
    ext i
    rw [Finset.mem_union, Finset.mem_biUnion, mem_xset, mem_xset]
    constructor
    · intro h
      by_cases hj : ∃ j, i ∈ wset (fwd d c) j
      · obtain ⟨j, hj⟩ := hj; exact Or.inl ⟨j, Finset.mem_univ _, hj⟩
      · refine Or.inr fun d' hd' j hi => ?_
        by_cases hdd : d' = d
        · subst hdd; exact hj ⟨j, hi⟩
        · exact h d' (fun h' => (Finset.mem_insert.mp h').elim hdd hd') j hi
    · rintro (⟨j, -, hj⟩ | h) d' hd' j' hi
      · have e : (fwd d c).val = (fwd d' c).val := (mem_wset.mp hj).1.symm.trans (mem_wset.mp hi).1
        exact hd' (Finset.mem_insert.mpr (Or.inl (fwd_inj (Fin.ext e)).symm))
      · exact h d' (fun h' => hd' (Finset.mem_insert_of_mem h')) j' hi
  have hdis : Disjoint (Finset.univ.biUnion fun j : Fin 4 => wset (fwd d c) j) (xset c D) := by
    rw [Finset.disjoint_left]
    intro i hi hx
    obtain ⟨j, -, hj⟩ := Finset.mem_biUnion.mp hi
    exact mem_xset.mp hx d hd j hj
  have hb := pointsTo_biUnion (Ix := Unit) (Name := ℕ) (U := UU) (Lvl := ℕ) (Val := Elt F) (ℓ := commM.view.loc (c : Thread nD τ)) (q := fullShare) (f := f)
    Finset.univ (fun j : Fin 4 => wset (fwd d c) j) fun j _ j' _ h => wset_disjoint fun e => h (congrArg Prod.snd e)
  refine Eq.trans (congrArg (fun I => (commM.view.loc (c : Thread nD τ) ↦[I]{fullShare} f : sProp 𝕄)) hu)
    (Eq.trans ?_ (congrArg (fun P : sProp 𝕄 => iprop(P ∗ commM.view.loc (c : Thread nD τ) ↦[xset c D]{fullShare} f)) hb))
  have h := pointsTo_union (Ix := Unit) (Name := ℕ) (U := UU) (Lvl := ℕ) (Val := Elt F) (ℓ := commM.view.loc (c : Thread nD τ)) (q := fullShare) (f := f) hdis
  exact BI.equiv_iff.mp ⟨h.1, h.2⟩

/-- With no window held the cleared buffer is the landed one. -/
theorem hold_none (c : Dev nD) : (hold c ∅ (zeroF (F := F)) : sProp 𝕄) = hold c ∅ (commF m c) :=
  pointsTo_congr fun i hi => (commF_rest m fun d j => mem_xset.mp hi d (Finset.notMem_empty d) j).symm

omit [FloatOps F] in
theorem hold_univ (c : Dev nD) (f : S4x256x1024.Idx → Elt F .bf16) :
    (hold c Finset.univ f : sProp 𝕄) = (commM.view.loc (c : Thread nD τ) ↦{fullShare} f) := by
  unfold hold; rw [xset_univ]

/-- A device's slot lies in what is held with its windows. -/
theorem slot_subset (c : Dev nD) {D : Finset (Fin 3)} (d : Fin 3) (hd : d ∈ D) : commM.view.setOn (slotR (fwd d c)).toLoadRect.set ⊆ xset c D := by
  intro i hi
  obtain ⟨y, hy, rfl⟩ := Finset.mem_map.mp hi
  have h0 := (Rect.mem_set_unit.mp hy) (0 : Fin 3)
  have h0' : (fwd d c).val ≤ (y 0).val ∧ (y 0).val < (fwd d c).val + 1 := h0
  rw [mem_xset]
  intro d' hd' j hi
  have h1 : (y 0).val = (fwd d' c).val := (mem_wset.mp hi).1
  exact hd' ((fwd_inj (Fin.ext (by omega : (fwd d c).val = (fwd d' c).val))) ▸ hd)

/-! ## The send buffer -/

omit [FloatOps F] in
/-- The send buffer is its four experts' rows. -/
theorem send_split (c : Dev nD) (q : PosShare TreeShare) (f : S256x1024.Idx → Elt F .bf16) :
    (sendM.view.loc (c : Thread nD τ) ↦{q} f : sProp 𝕄) = bigSep Finset.univ fun j : Fin 4 => sendM.view.loc (c : Thread nD τ) ↦[bset j]{q} f := by
  have hd : ∀ j ∈ (Finset.univ : Finset (Fin 4)), ∀ j' ∈ (Finset.univ : Finset (Fin 4)), j ≠ j' → Disjoint (bset j) (bset j') := by
    intro j _ j' _ h
    rw [Finset.disjoint_left]
    intro i hi hi'
    exact h (Fin.ext ((mem_bset.mp hi).symm.trans (mem_bset.mp hi')))
  have hu : (Finset.univ : Finset S256x1024.Idx) = (Finset.univ : Finset (Fin 4)).biUnion fun j => bset j := by
    symm
    refine Finset.eq_univ_of_forall fun i => Finset.mem_biUnion.mpr ?_
    have : (i 0).val < 256 := (i 0).isLt
    exact ⟨⟨(i 0).val / 64, by omega⟩, Finset.mem_univ _, mem_bset.mpr rfl⟩
  refine Eq.trans ?_ (pointsTo_biUnion (Ix := Unit) (Name := ℕ) (U := UU) (Lvl := ℕ) (Val := Elt F) (ℓ := sendM.view.loc (c : Thread nD τ)) (q := q) (f := f)
    Finset.univ (fun j : Fin 4 => bset j) hd)
  exact congrArg (fun I => (sendM.view.loc (c : Thread nD τ) ↦[I]{q} f : sProp 𝕄)) hu

/-- The rows of expert `j` kept for the device's own reading. -/
def keepPts (c : Dev nD) (j : Fin 4) : sProp 𝕄 := sendM.view.loc (c : Thread nD τ) ↦[bset j]{fullShare.left} sendF m c
/-- The last rows of expert `j`, which no copy reads. -/
def tailPts (c : Dev nD) (j : Fin 4) : sProp 𝕄 := sendM.view.loc (c : Thread nD τ) ↦[bset j \ aset j]{fullShare.right} sendF m c

/-- The rows of expert `j`: those kept, those no copy reads, and those lent to the three copies. -/
theorem blk_split (c : Dev nD) (j : Fin 4) : (sendM.view.loc (c : Thread nD τ) ↦[bset j]{fullShare} sendF m c : sProp 𝕄)
    = iprop(keepPts m c j ∗ tailPts m c j ∗ sendPay m c 0 j ∗ sendPay m c 1 j ∗ sendPay m c 2 j) := by
  have share (I : Finset S256x1024.Idx) (q : PosShare TreeShare) : (sendM.view.loc (c : Thread nD τ) ↦[I]{q} sendF m c : sProp 𝕄)
      = iprop((sendM.view.loc (c : Thread nD τ) ↦[I]{q.left} sendF m c) ∗ (sendM.view.loc (c : Thread nD τ) ↦[I]{q.right} sendF m c)) := by
    have h := pointsTo_share (Ix := Unit) (Name := ℕ) (U := UU) (Lvl := ℕ) (Val := Elt F) (ℓ := sendM.view.loc (c : Thread nD τ)) (I := I) (f := sendF m c)
      (PosShare.mem_left_op_right q)
    exact BI.equiv_iff.mp ⟨h.1, h.2⟩
  have cut (q : PosShare TreeShare) : (sendM.view.loc (c : Thread nD τ) ↦[bset j]{q} sendF m c : sProp 𝕄)
      = iprop((sendM.view.loc (c : Thread nD τ) ↦[aset j]{q} sendF m c) ∗ (sendM.view.loc (c : Thread nD τ) ↦[bset j \ aset j]{q} sendF m c)) := by
    have h := pointsTo_split_subset (Ix := Unit) (Name := ℕ) (U := UU) (Lvl := ℕ) (Val := Elt F) (ℓ := sendM.view.loc (c : Thread nD τ)) (q := q) (f := sendF m c)
      (aset_subset j)
    exact BI.equiv_iff.mp ⟨h.1, h.2⟩
  rw [share (bset j) fullShare, cut fullShare.right, share (aset j) fullShare.right, share (aset j) fullShare.right.right]
  unfold keepPts tailPts sendPay
  refine eq_of_entails ?_ ?_
  · iintro ⟨H1, ⟨H2, H3, H4⟩, H5⟩
    isplitl [H1]; · iexact H1
    isplitl [H5]; · iexact H5
    isplitl [H2]; · iexact H2
    isplitl [H3]; · iexact H3
    iexact H4
  · iintro ⟨H1, H5, H2, H3, H4⟩
    isplitl [H1]; · iexact H1
    isplitr [H5]
    · isplitl [H2]; · iexact H2
      isplitl [H3]; · iexact H3
      iexact H4
    · iexact H5

/-- The four experts' rows back together: the whole send buffer. -/
theorem blk_join (c : Dev nD) : iprop((bigSep Finset.univ fun j : Fin 4 => keepPts m c j) ∗ (bigSep Finset.univ fun j : Fin 4 => tailPts m c j)
      ∗ bigSep Finset.univ fun j : Fin 4 => iprop(sendPay m c 0 j ∗ sendPay m c 1 j ∗ sendPay m c 2 j))
    ⊢ (sendM.view.loc (c : Thread nD τ) ↦{fullShare} sendF m c : sProp 𝕄) := by
  rw [← bigSep_sep', ← bigSep_sep', send_split c fullShare]
  exact bigSep_mono fun j _ => Entails.of_eq (blk_split m c j).symm

/-- One more device's windows, landed, to those held. -/
theorem hold_join (c : Dev nD) {D D' : Finset (Fin 3)} (d : Fin 3) (hd : d ∉ D) (e : D' = insert d D) :
    hold c D (commF m c) ⊢ iprop(winPts c (fwd d c) 0 (commF m c) -∗ winPts c (fwd d c) 1 (commF m c) -∗ winPts c (fwd d c) 2 (commF m c)
      -∗ winPts c (fwd d c) 3 (commF m c) -∗ hold c D' (commF m c)) := by
  rw [hold_step c d hd e, bigSep_fin4]
  iintro H H0 H1 H2 H3
  isplitr [H]
  · isplitl [H0]; · iexact H0
    isplitl [H1]; · iexact H1
    isplitl [H2] <;> iassumption
  · iexact H

/-- Storing expert `j`'s block makes its rows those of the full send buffer. -/
theorem blk_written (c : Dev nD) (j : Fin 4) (f : S256x1024.Idx → Elt F .bf16) :
    ∀ i ∈ bset j, ((sendM.access (blkR j) : View sig .tc _ _ _).write (Elt F) f (blk m c j) Finset.univ : S256x1024.Idx → Elt F .bf16) i = sendF m c i := by
  intro i hi
  rw [← blkR_set] at hi
  obtain ⟨y, -, rfl⟩ := Finset.mem_map.mp hi
  rw [View.write_emb_of_mem _ _ (Finset.mem_univ y)]
  show blk m c j y = _
  have hy : (y 0).val < 64 := (y 0).isLt
  have e0 : (((sendM.access (blkR j) : View sig .tc _ _ _).emb y : S256x1024.Idx) 0).val = 64 * j.val + (y 0).val := by
    show 64 * j.val + 1 * (y 0).val = _; omega
  have e1 : (((sendM.access (blkR j) : View sig .tc _ _ _).emb y : S256x1024.Idx) 1).val = (y 1).val := by
    show 0 + 1 * (y 1).val = _; omega
  have hj : (⟨(((sendM.access (blkR j) : View sig .tc _ _ _).emb y : S256x1024.Idx) 0).val / 64, by
      have : (((sendM.access (blkR j) : View sig .tc _ _ _).emb y : S256x1024.Idx) 0).val < 256 := (((sendM.access (blkR j) : View sig .tc _ _ _).emb y : S256x1024.Idx) 0).isLt
      omega⟩ : Fin 4) = j := Fin.ext (by show (((sendM.access (blkR j) : View sig .tc _ _ _).emb y : S256x1024.Idx) 0).val / 64 = _; rw [e0]; omega)
  have hi2 : (ix2 ⟨(((sendM.access (blkR j) : View sig .tc _ _ _).emb y : S256x1024.Idx) 0).val % 64, by omega⟩
      (((sendM.access (blkR j) : View sig .tc _ _ _).emb y : S256x1024.Idx) 1) : S64x1024.Idx) = y := by
    refine Eq.trans ?_ (eq_ix2 (n0 := 64) (n1 := 1024) y).symm
    congr 1
    · exact Fin.ext (by show (((sendM.access (blkR j) : View sig .tc _ _ _).emb y : S256x1024.Idx) 0).val % 64 = (y 0).val; rw [e0]; omega)
    · exact Fin.ext e1
  unfold sendF
  rw [hi2]
  exact congrArg (fun j => blk m c j y) hj.symm

end Cert.KernelIdealProof

end
-- ==== Proof.KernelIdeal.Steps.lean ====
/-
  One step of the protocol each: a signal, a copy started, a landing waited for, a sending waited for.
-/
module

public import proofs.«01_k».proof.Proof.KernelIdeal.Split

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their records -/

/-- A device's cells: its barrier, its sending semaphores, its receiving semaphores. -/
abbrev CI : Type := Unit ⊕ (Fin 3 × Fin 4) ⊕ (Dev nD × Fin 4)

def csem : CI → SemLoc sig
  | .inl _ => .reg barS
  | .inr (.inl p) => .dma (sS p.1 p.2)
  | .inr (.inr p) => .dma (rS p.1 p.2)

def kcell (ck : Dev nD × CI) : GSem nD τ sig := ((ck.1 : Thread nD τ), csem ck.2)

/-- Every cell's invariant, at the names `K`, and that each is at its first round. -/
def records (K : Dev nD × CI → ℕ) : sProp 𝕄 :=
  iprop((bigSep Finset.univ fun ck : Dev nD × CI => cellInv ER (sch m) (K ck) (kcell ck))
    ∗ bigSep Finset.univ fun ck : Dev nD × CI => reached ER (kcell ck) 0)

instance records_persistent (K : Dev nD × CI → ℕ) : BI.Persistent (records m K) := by unfold records; infer_instance

omit [FloatOps F] in
theorem elim_at {I : Type} [DecidableEq I] [Fintype I] (Φ : I → sProp 𝕄) (i : I) : bigSep Finset.univ Φ ⊢ Φ i := bigSep_elim (Finset.mem_univ i)

theorem inv_at (K : Dev nD × CI → ℕ) (ck : Dev nD × CI) : records m K ⊢ cellInv ER (sch m) (K ck) (kcell ck) := by
  unfold records
  iintro ⟨H, -⟩
  iapply (elim_at (fun ck : Dev nD × CI => (cellInv ER (sch m) (K ck) (kcell ck) : sProp 𝕄)) ck)
  iexact H
theorem reached_at (K : Dev nD × CI → ℕ) (ck : Dev nD × CI) : records m K ⊢ reached ER (kcell ck) 0 := by
  unfold records
  iintro ⟨-, H⟩
  iapply (elim_at (fun ck : Dev nD × CI => (reached ER (kcell ck) 0 : sProp 𝕄)) ck)
  iexact H

/-! ## What a device holds between steps -/

/-- What the device owes, whatever waits it has behind it. -/
def owesE (c : Dev nD) (O : CellTallies nD τ sig Unit) : sProp 𝕄 := iprop(∃ W : Waits sig Unit, owes (c : Thread nD τ) O W)

/-- For a copy before the barrier: its two duties' tokens and its sending semaphore's position. -/
def preCopy (c : Dev nD) (p : Fin 3 × Fin 4) : sProp 𝕄 :=
  iprop(dutyTok ER (sendCell c p.1 p.2) 0 0 ∗ dutyTok ER (recvCell (fwd p.1 c) c p.2) 0 0 ∗ atPos ER (sendCell c p.1 p.2) 0 ∅ 0)
/-- For a copy to be started: that and the window it fills. -/
def copyRes (c : Dev nD) (p : Fin 3 × Fin 4) : sProp 𝕄 := iprop(preCopy c p ∗ winPts (fwd p.1 c) c p.2 (zeroF (F := F)))
/-- For a copy started: the credit and the position of its sending semaphore. -/
def sendRes (c : Dev nD) (p : Fin 3 × Fin 4) : sProp 𝕄 :=
  iprop(cred (tallyAt (sendCell c p.1 p.2) () N) ∗ atPos ER (sendCell c p.1 p.2) 0 ∅ 0)
/-- For a landing to be waited for: the credit and the position of its receiving semaphore. -/
def recvRes (c : Dev nD) (p : Fin 3 × Fin 4) : sProp 𝕄 :=
  iprop(cred (tallyAt (recvCell c (fwd p.1 c) p.2) () N) ∗ atPos ER (recvCell c (fwd p.1 c) p.2) 0 ∅ 0)
/-- A sending semaphore back at zero. -/
def sendZero (c : Dev nD) (p : Fin 3 × Fin 4) : sProp 𝕄 := semVal (sendCell c p.1 p.2) 0
/-- A receiving semaphore back at zero. -/
def recvZero (c : Dev nD) (p : Fin 3 × Fin 4) : sProp 𝕄 := semVal (recvCell c (fwd p.1 c) p.2) 0

/-- With the barrier's windows every copy can be started. -/
theorem copies_intro (c : Dev nD) :
    iprop((bigSep Finset.univ fun p => preCopy (F := F) c p) ∗ bigSep Finset.univ fun d => barPay (F := F) c d) ⊢ sepL (copyRes (F := F) c) allP := by
  have hw : (bigSep Finset.univ fun d => barPay (F := F) c d : sProp 𝕄) = bigSep Finset.univ fun p : Fin 3 × Fin 4 => winPts (fwd p.1 c) c p.2 (zeroF (F := F)) := by
    rw [bigSep_univ_prod, bigSep_univ_equiv Fin.revPerm (fun d : Fin 3 => bigSep Finset.univ fun j : Fin 4 => (winPts (fwd d c) c j (zeroF (F := F)) : sProp 𝕄))]
    refine bigSep_congr fun d _ => ?_
    unfold barPay
    rw [back_eq_fwd]; rfl
  rw [hw, ← bigSep_sep', sepL_eq _ allP (by decide), show allP.toFinset = Finset.univ by decide]
  exact BI.Entails.refl _

abbrev 𝒱₀ : Variants := Variants.none

section Steps
variable (K : Dev nD × CI → ℕ)

/-- Signal `d`: the windows of the signalled device's copies go with it. -/
theorem step_signal (c n : Dev nD) (d : Fin 3) (l : List (Fin 3)) (hn : n = fwd d c) {a : ℕ} (ha : 1 = a)
    {α : Type} {Q : α → sProp 𝕄}
    {k : PUnit → Prog (TpuEff nD τ sig (Elt F) Λ₀ .tc) α} :
    records m K ⊢ iprop(owesE c (OB c (d :: l)) -∗ dutyTok ER (barCell (fwd d c)) 0 d -∗ (bigSep Finset.univ fun j : Fin 4 => winPts c (fwd d c) j (zeroF (F := F)))
          -∗ (owesE c (OB c l) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS a) k) Q) := by
  subst hn ha
  unfold owesE
  iintro #HR ⟨%W, HO⟩ Ht Hw Hk
  iapply (Rounds.wp_signal 𝒱₀ ER (sch m) (c : Thread nD τ) none (dst := (fwd d c : Thread nD τ)) (κ := K (fwd d c, .inl ()))
      (d := d) (by rw [duties_bar]; exact Finset.mem_univ _) (amount_bar m (fwd d c) d) () (OB c l) rfl (W := W))
    $$ [HO Ht Hw]
  · isplitr; · iapply (inv_at m K (fwd d c, .inl ())); iexact HR
    isplitl [HO]; · iexact HO
    isplitl [Ht]; · iexact Ht
    isplitl [Hw]
    · rw [payload_bar]; unfold barPay; rw [back_fwd]; iexact Hw
    · iapply (reached_at m K (fwd d c, .inl ())); iexact HR
  iintro HO
  iapply Hk
  iexists W; iexact HO

/-- The barrier wait: the windows of the device's own copies come with it. -/
theorem step_bar (c : Dev nD) {a : ℕ} (ha : 3 = a) {α : Type} {Q : α → sProp 𝕄}
    {k : PUnit → Prog (TpuEff nD τ sig (Elt F) Λ₀ .tc) α} :
    records m K ⊢ iprop(levAts L lv -∗ cred (tallyAt (barCell c) () 3) -∗ owesE c (OB c []) -∗ atPos ER (barCell c) 0 ∅ 0
          -∗ (bigSep Finset.univ fun p => preCopy (F := F) c p) -∗ (owesE c (OS c allP) ∗ semVal (barCell c) 0 ∗ sepL (copyRes (F := F) c) allP
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  unfold owesE
  iintro #HR #Hlev Hc ⟨%W, HO⟩ Hat Hpre Hk
  iapply (Rounds.wp_wait_rest_token 𝒱₀ ER (sch m) (c : Thread nD τ) none (κ := K (c, .inl ()))
      (wpE_semWait_eq 𝒱₀ (c : Thread nD τ) none Set.univ) (Set.mem_univ _) () (O := OS c allP) (W := W) (R := 0) (m := 0) (T := ∅)
      (by rw [expect_bar])) $$ [Hc HO Hat]
  · isplitr; · iapply (inv_at m K (c, .inl ())); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close ER (sch m) (Set.mem_univ (K (c, .inl ()))) (fun h => h) (R := 0 + 1) (duties_later m (barCell c))) $$ [Hat] with Hz
  · isplitr; · iapply (inv_at m K (c, .inl ())); iexact HR
    iexact Hat
  iapply Hk
  isplitl [HO]; · iexists _; iexact HO
  isplitl [Hz]; · iexact Hz
  iapply (copies_intro c)
  isplitl [Hpre] <;> iassumption

theorem credit_amt (k : Dev nD) (j : Fin 4) : (dstW k j).view.amount (.dma (rS k j)) = N := rfl

/-- A copy started: its rows are lent to it, its window is handed to the landing. -/
theorem step_send (c n : Dev nD) (d : Fin 3) (j : Fin 4) (l l' : List (Fin 3 × Fin 4)) (hn : n = fwd d c)
    {src : Memref sig .tc .vmem S56x1024 .bf16} (hs : src = srcW j)
    {dst : Memref sig (Dev.tc n : Thread nD τ).2.kind .vmem S56x1024 .bf16} (hd : dst = dstW c j)
    {s r : DmaSem sig} (hsS : s = sS d j) (hrS : r = rS c j)
    {hsc : dst.view.ref.isScScratch = false} {hsrc : src.view.WordExact} {hdst : dst.view.WordExact}
    {hsem : DmaTarget.Typed .vmem (.dma r) (.remote (Dev.tc n : Thread nD τ) dst (.dma s) hsc)}
    {α : Type} {Q : α → sProp 𝕄}
    {k : PUnit → Prog (TpuEff nD τ sig (Elt F) Λ₀ .tc) α} :
    records m K ⊢ iprop(sendPay m c d j -∗ sepL (copyRes (F := F) c) ((d, j) :: l) -∗ sepL (sendRes (F := F) c) l' -∗ owesE c (OS c ((d, j) :: l))
          -∗ (sepL (copyRes (F := F) c) l ∗ sepL (sendRes (F := F) c) ((d, j) :: l') ∗ owesE c (OS c l)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma s) hsc) (.dma r) hsrc hdst hsem) k) Q) := by
  subst hn hs hd hsS hrS
  rw [sepL_cons, sepL_cons]
  unfold owesE copyRes preCopy
  iintro #HR Hp ⟨⟨⟨HtS, HtR, Hat⟩, Hw⟩, Hl⟩ Hl' ⟨%W, HO⟩ Hk
  iapply (Rounds.wp_send_pointsTo 𝒱₀ ER (sch m) (c : Thread nD τ) none (κ₁ := K (c, .inr (.inl (d, j)))) (κ₂ := K (fwd d c, .inr (.inr (c, j))))
    (r₁ := 0) (r₂ := 0) (d₁ := 0) (d₂ := 0) (fs := sendF m c) (q := qs d) (fd := zeroF (F := F))
    (by rw [duties_send]; exact Finset.mem_singleton_self _) (by rw [duties_recv m (fwd d c) j (fwd_ne d c).symm]; exact Finset.mem_singleton_self _)
    () () N (credit_amt c j) (amount_send m c d j 0) (amount_recv m (fwd d c) c j 0) (OS c l) rfl (W := W)
    (by rw [payload_send]; unfold sendPay; rw [← srcW_set j])
    (by
      rw [payload_recv]
      unfold winPts
      rw [← dstW_set c j]
      refine Entails.of_eq (pointsTo_congr fun i hi => ?_)
      obtain ⟨y, -, rfl⟩ := Finset.mem_map.mp hi
      rw [View.write_emb_of_mem _ _ (Finset.mem_univ y)]
      exact (commF_window m (fwd_ne d c).symm y).symm)) $$ [Hp Hw HO HtS HtR]
  · isplitr; · iapply (inv_at m K (c, .inr (.inl (d, j)))); iexact HR
    isplitr; · iapply (inv_at m K (fwd d c, .inr (.inr (c, j)))); iexact HR
    isplitl [Hp]; · unfold sendPay; rw [← srcW_set j]; iexact Hp
    isplitl [Hw]; · unfold winPts; rw [← dstW_set c j]; iexact Hw
    isplitl [HO]; · iexact HO
    isplitl [HtS]; · iexact HtS
    isplitr; · iapply (reached_at m K (c, .inr (.inl (d, j)))); iexact HR
    isplitl [HtR]; · iexact HtR
    iapply (reached_at m K (fwd d c, .inr (.inr (c, j)))); iexact HR
  iintro ⟨Hcr, HO⟩
  iapply Hk
  isplitl [Hl]; · iexact Hl
  isplitl [Hcr Hat Hl']
  · unfold sendRes
    isplitl [Hcr Hat]
    · isplitl [Hcr] <;> iassumption
    · iexact Hl'
  iexists W; iexact HO

theorem credit_val (dst : Memref sig .tc .vmem S56x1024 .bf16) : dst.view.dmaCredit = N := rfl

/-- A landing waited for: its window filled, its semaphore back at zero. -/
theorem step_recv (c : Dev nD) (d : Fin 3) (j : Fin 4) (l l' : List (Fin 3 × Fin 4)) {r : DmaSem sig} (hr : r = rS (fwd d c) j)
    {src dst : Memref sig .tc .vmem S56x1024 .bf16}
    {hsrc : src.view.WordExact} {hdst : dst.view.WordExact} {α : Type} {Q : α → sProp 𝕄}
    {k : PUnit → Prog (TpuEff nD τ sig (Elt F) Λ₀ .tc) α} :
    records m K ⊢ iprop(sepL (recvRes (F := F) c) ((d, j) :: l) -∗ sepL (recvZero (F := F) c) l' -∗ owesE c 0
          -∗ (sepL (recvRes (F := F) c) l ∗ sepL (recvZero (F := F) c) ((d, j) :: l') ∗ owesE c 0 ∗ winPts c (fwd d c) j (commF m c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 r src dst hsrc hdst) k) Q) := by
  subst hr
  rw [sepL_cons, sepL_cons]
  unfold owesE recvRes
  iintro #HR ⟨⟨Hc, Hat⟩, Hl⟩ Hl' ⟨%W, HO⟩ Hk
  iapply (Rounds.wp_wait_rest_token 𝒱₀ ER (sch m) (c : Thread nD τ) none (κ := K (c, .inr (.inr (fwd d c, j))))
      (wpE_waitDma2_eq 𝒱₀ (c : Thread nD τ) none Set.univ) (Set.mem_univ _) () (O := 0) (W := W) (R := 0) (m := 0) (T := ∅)
      (by rw [Nat.zero_add, expect_recv m c j (fwd_ne d c), credit_val dst])) $$ [Hc HO Hat]
  · isplitr; · iapply (inv_at m K (c, .inr (.inr (fwd d c, j)))); iexact HR
    isplitl [Hc]; · rw [credit_val dst]; iexact Hc
    isplitl [HO]; · iexact HO
    isplitr; · rw [MayWait_zero]; iempintro
    iexact Hat
  iintro ⟨HO, Hat, -, Hpay⟩
  ihave Hp := (Entails.of_eq (rest_recv m c j (fwd_ne d c))) $$ Hpay
  imod (Rounds.cell_close ER (sch m) (Set.mem_univ (K (c, .inr (.inr (fwd d c, j))))) (fun h => h) (R := 0 + 1) (duties_later m (recvCell c (fwd d c) j))) $$ [Hat] with Hz
  · isplitr; · iapply (inv_at m K (c, .inr (.inr (fwd d c, j)))); iexact HR
    iexact Hat
  iapply Hk
  isplitl [Hl]; · iexact Hl
  isplitl [Hz Hl']
  · unfold recvZero
    isplitl [Hz] <;> iassumption
  isplitl [HO]; · iexists _; iexact HO
  iexact Hp

/-- A sending waited for: its rows back, its semaphore back at zero. -/
theorem step_sent (c : Dev nD) (d : Fin 3) (j : Fin 4) (l l' : List (Fin 3 × Fin 4)) {r : DmaSem sig} (hr : r = sS d j)
    {src dst : Memref sig .tc .vmem S56x1024 .bf16}
    {hsrc : src.view.WordExact} {hdst : dst.view.WordExact} {α : Type} {Q : α → sProp 𝕄}
    {k : PUnit → Prog (TpuEff nD τ sig (Elt F) Λ₀ .tc) α} :
    records m K ⊢ iprop(sepL (sendRes (F := F) c) ((d, j) :: l) -∗ sepL (sendZero (F := F) c) l' -∗ owesE c 0
          -∗ (sepL (sendRes (F := F) c) l ∗ sepL (sendZero (F := F) c) ((d, j) :: l') ∗ owesE c 0 ∗ sendPay m c d j
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 r src dst hsrc hdst) k) Q) := by
  subst hr
  rw [sepL_cons, sepL_cons]
  unfold owesE sendRes
  iintro #HR ⟨⟨Hc, Hat⟩, Hl⟩ Hl' ⟨%W, HO⟩ Hk
  iapply (Rounds.wp_wait_rest_token 𝒱₀ ER (sch m) (c : Thread nD τ) none (κ := K (c, .inr (.inl (d, j))))
      (wpE_waitDma2_eq 𝒱₀ (c : Thread nD τ) none Set.univ) (Set.mem_univ _) () (O := 0) (W := W) (R := 0) (m := 0) (T := ∅)
      (by rw [Nat.zero_add, expect_send m c d j, credit_val dst])) $$ [Hc HO Hat]
  · isplitr; · iapply (inv_at m K (c, .inr (.inl (d, j)))); iexact HR
    isplitl [Hc]; · rw [credit_val dst]; iexact Hc
    isplitl [HO]; · iexact HO
    isplitr; · rw [MayWait_zero]; iempintro
    iexact Hat
  iintro ⟨HO, Hat, -, Hpay⟩
  ihave Hp := (Entails.of_eq (rest_send m c d j)) $$ Hpay
  imod (Rounds.cell_close ER (sch m) (Set.mem_univ (K (c, .inr (.inl (d, j))))) (fun h => h) (R := 0 + 1) (duties_later m (sendCell c d j))) $$ [Hat] with Hz
  · isplitr; · iapply (inv_at m K (c, .inr (.inl (d, j)))); iexact HR
    iexact Hat
  iapply Hk
  isplitl [Hl]; · iexact Hl
  isplitl [Hz Hl']
  · unfold sendZero
    isplitl [Hz] <;> iassumption
  isplitl [HO]; · iexists _; iexact HO
  iexact Hp

/-- A receiving semaphore no copy uses is at zero. -/
theorem own_close (c : Dev nD) (j : Fin 4) : iprop(records m K ∗ atPos ER (recvCell c c j) 0 ∅ 0) ⊢ (|={Set.univ}=> semVal (recvCell c c j) 0 : sProp 𝕄) := by
  iintro ⟨#HR, Hat⟩
  iapply (Rounds.cell_close ER (sch m) (Set.mem_univ (K (c, .inr (.inr (c, j))))) (fun h => h) (R := 0) (duties_own m c j))
  isplitr; · iapply (inv_at m K (c, .inr (.inr (c, j)))); iexact HR
  iexact Hat

end Steps

end Cert.KernelIdealProof

end
-- ==== Proof.KernelIdeal.Data.lean ====
/-
  The body of the kernel on one device, run once for every device: what it leaves in the device's result.
-/
module

public import proofs.«01_k».proof.Proof.KernelIdeal.Steps

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the device computes -/

/-- The device's own number, as the body reads it. -/
abbrev ownW (c : Dev nD) : BitVec 32 := Scalar.remsi (Scalar.divsi (Dev.word c) 1#32) 4#32
/-- The slot of each token. -/
abbrev slots (c : Dev nD) : IVec S1024x1 32 := k0_pay1 (F := F) (rstg m c)
/-- The columns' numbers. -/
abbrev cols : IVec S1024x256 32 := iota .tc S1024x256 32 [1] iota_S1024x256_d1_w32

/-- The matrix that scatters what the device one place on sent. -/
def sel1 (c : Dev nD) : FVec F S1024x256 .bf16 := k0_pay10 (slots m c) cols (Scalar.addi (ownW c) 1#32) 4#32
/-- The matrix that scatters what the device three places on sent. -/
def sel3 (c : Dev nD) : FVec F S1024x256 .bf16 :=
  k0_pay12 (slots m c) cols (Scalar.select (Scalar.cmpi .eq 4#32 0#32) 1#32 4#32)
    (Scalar.remsi (Scalar.addi (ownW c) 3#32) (Scalar.select (Scalar.cmpi .eq 4#32 0#32) 1#32 4#32))
    (Scalar.cmpi .ne (Scalar.remsi (Scalar.addi (ownW c) 3#32) (Scalar.select (Scalar.cmpi .eq 4#32 0#32) 1#32 4#32)) 0#32)
    (Scalar.cmpi .slt (Scalar.remsi (Scalar.addi (ownW c) 3#32) (Scalar.select (Scalar.cmpi .eq 4#32 0#32) 1#32 4#32)) 0#32)
/-- The matrix that scatters what the device two places on sent. -/
def sel2 (c : Dev nD) : FVec F S1024x256 .bf16 := k0_pay15 (slots m c) cols (k0_pay14 (ownW c))

/-- What device `c` reads of what device `k` sent. -/
def slotV (c k : Dev nD) : Vec F S1x256x1024 .bf16 := commM.view.readAt (Elt F) (slotR k).toLoadRect (commF m c)

/-- The result after the device's own experts, -/
def out0 (c : Dev nD) : FVec F S1024x1024 .f32 := k0_pay9 (selM m c) (sendF m c)
/-- after those of the device one place on, -/
def out1 (c : Dev nD) : FVec F S1024x1024 .f32 := k0_pay11 (sel1 m c) (out0 m c) (slotV m c (fwd 0 c))
/-- after those of the device three places on, -/
def out2 (c : Dev nD) : FVec F S1024x1024 .f32 := k0_pay13 (sel3 m c) (out1 m c) (slotV m c (fwd 2 c))
/-- and after those of the device two places on. -/
def outF (c : Dev nD) : FVec F S1024x1024 .f32 := k0_pay16 (sel2 m c) (out2 m c) (slotV m c (fwd 1 c))

/-! ## The pipeline's data -/

/-- What the launch gives device `c`, at the names `K`. -/
def ghost (K : Dev nD × CI → ℕ) (c : Dev nD) : sProp 𝕄 :=
  iprop(records m K ∗ (bigSep Finset.univ fun d : Fin 3 => dutyTok ER (barCell (fwd d c)) 0 d) ∗ (bigSep Finset.univ fun p => preCopy (F := F) c p)
    ∗ atPos ER (barCell c) 0 ∅ 0 ∗ bigSep Finset.univ fun j : Fin 4 => atPos ER (recvCell c c j) 0 ∅ 0)
/-- What its body starts from. -/
def start (K : Dev nD × CI → ℕ) (c : Dev nD) : sProp 𝕄 :=
  iprop(ghost m K c ∗ cred (tallyAt (barCell c) () 3) ∗ (bigSep Finset.univ fun p => recvRes (F := F) c p) ∗ levAts L lv)

/-- The two scratch buffers, any contents. -/
def scr (c : Dev nD) : sProp 𝕄 :=
  iprop((∃ f, sendM.view.loc (c : Thread nD τ) ↦{fullShare} f) ∗ ∃ f, commM.view.loc (c : Thread nD τ) ↦{fullShare} f)

/-- Before the body. -/
def Φ₀ (c : Dev nD) : sProp 𝕄 := iprop((∃ K, start m K c) ∗ scr c)
/-- After it: the scratch buffers, and every semaphore at zero. -/
def Φ₁ (c : Dev nD) : sProp 𝕄 :=
  iprop(scr c ∗ semVal (barCell c) 0 ∗ (bigSep Finset.univ fun p => sendZero (F := F) c p) ∗ (bigSep Finset.univ fun p => recvZero (F := F) c p)
    ∗ bigSep Finset.univ fun j : Fin 4 => semVal (recvCell c c j) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => rstg m c
    | ⟨2, _⟩ => wstg m c
    | ⟨3, _⟩ => outF m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- The one point of the grid. -/
abbrev t₀ : Fin cfg0.N := ⟨0, Nat.one_pos⟩

theorem fetch_at (w : Fin 4) (hw : w ≠ 3) (t : Fin cfg0.N) : (cfg0.win w).fetch t = true := by
  rw [fin_N0 t]
  match w, hw with
  | ⟨0, _⟩, _ => rfl
  | ⟨1, _⟩, _ => rfl
  | ⟨2, _⟩, _ => rfl
  | ⟨3, _⟩, h => exact absurd rfl h

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` that holds `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## Loads and stores -/

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

omit [FloatOps F] in
theorem blk_sub (j : Fin 4) : sendM.view.setOn (blkR j).toLoadRect.set ⊆ bset j := by
  intro i hi
  obtain ⟨y, hy, rfl⟩ := Finset.mem_map.mp hi
  have h0 := (Rect.mem_set_unit.mp hy) (0 : Fin 2)
  have h0' : 64 * j.val ≤ (y 0).val ∧ (y 0).val < 64 * j.val + 64 := h0
  rw [mem_bset]
  show (y 0).val / 64 = j.val
  omega

section Moves
variable {α : Type}

/-- The tokens loaded. -/
theorem load_x (c : Dev nD) {q : PosShare TreeShare} {f : S1024x512.Idx → Elt F .bf16} {inb : ∀ a, (![0, 0] : Fin 2 → Nat) a + S1024x512.size a ≤ S1024x512.size a}
    {hl : xM.view.LoadsAt (Rect.unit (s := S1024x512) ![0, 0] S1024x512.size inb).toLoadRect} {Q : α → sProp 𝕄} {k : Vec F S1024x512 .bf16 → Prog (TpuEff nD τ sig (Elt F) Λ₀ .tc) α} :
    (xM.view.loc (c : Thread nD τ) ↦{q} f : sProp 𝕄)
      ⊢ iprop(((xM.view.loc (c : Thread nD τ) ↦{q} f) -∗ wp frame (wpE (defs₀ (F := F)) 𝒱₀ (c : Thread nD τ) none) Set.univ (k f) Q)
          -∗ wp frame (wpE (defs₀ (F := F)) 𝒱₀ (c : Thread nD τ) none) Set.univ (.op (.load xM (Rect.unit (s := S1024x512) ![0, 0] S1024x512.size inb).toLoadRect hl) k) Q) := by
  have h : xM.view.readAt (Elt F) (Rect.unit (s := S1024x512) ![0, 0] S1024x512.size inb).toLoadRect f = f := Memref.readAt_unit_zero (Elt F) cc0_stg0_0 hz2 _ f
  iintro H Hk
  iapply (wp_load 𝒱₀ (c : Thread nD τ) none Set.univ (m := xM) (Finset.subset_univ _)) $$ H
  rw [h]
  iexact Hk

/-- The expert numbers loaded. -/
theorem load_r (c : Dev nD) {q : PosShare TreeShare} {f : S1024x1.Idx → Elt F .i32} {inb : ∀ a, (![0, 0] : Fin 2 → Nat) a + S1024x1.size a ≤ S1024x1.size a}
    {hl : rM.view.LoadsAt (Rect.unit (s := S1024x1) ![0, 0] S1024x1.size inb).toLoadRect} {Q : α → sProp 𝕄} {k : Vec F S1024x1 .i32 → Prog (TpuEff nD τ sig (Elt F) Λ₀ .tc) α} :
    (rM.view.loc (c : Thread nD τ) ↦{q} f : sProp 𝕄)
      ⊢ iprop(((rM.view.loc (c : Thread nD τ) ↦{q} f) -∗ wp frame (wpE (defs₀ (F := F)) 𝒱₀ (c : Thread nD τ) none) Set.univ (k f) Q)
          -∗ wp frame (wpE (defs₀ (F := F)) 𝒱₀ (c : Thread nD τ) none) Set.univ (.op (.load rM (Rect.unit (s := S1024x1) ![0, 0] S1024x1.size inb).toLoadRect hl) k) Q) := by
  have h : rM.view.readAt (Elt F) (Rect.unit (s := S1024x1) ![0, 0] S1024x1.size inb).toLoadRect f = f := Memref.readAt_unit_zero (Elt F) cc0_stg1_0 hz2 _ f
  iintro H Hk
  iapply (wp_load 𝒱₀ (c : Thread nD τ) none Set.univ (m := rM) (Finset.subset_univ _)) $$ H
  rw [h]
  iexact Hk

/-- The whole send buffer loaded. -/
theorem load_send (c : Dev nD) {q : PosShare TreeShare} {f : S256x1024.Idx → Elt F .bf16} {inb : ∀ a, (![0, 0] : Fin 2 → Nat) a + S256x1024.size a ≤ S256x1024.size a}
    {hl : sendM.view.LoadsAt (Rect.unit (s := S256x1024) ![0, 0] S256x1024.size inb).toLoadRect} {Q : α → sProp 𝕄} {k : Vec F S256x1024 .bf16 → Prog (TpuEff nD τ sig (Elt F) Λ₀ .tc) α} :
    (sendM.view.loc (c : Thread nD τ) ↦{q} f : sProp 𝕄)
      ⊢ iprop(((sendM.view.loc (c : Thread nD τ) ↦{q} f) -∗ wp frame (wpE (defs₀ (F := F)) 𝒱₀ (c : Thread nD τ) none) Set.univ (k f) Q)
          -∗ wp frame (wpE (defs₀ (F := F)) 𝒱₀ (c : Thread nD τ) none) Set.univ (.op (.load sendM (Rect.unit (s := S256x1024) ![0, 0] S256x1024.size inb).toLoadRect hl) k) Q) := by
  have h : sendM.view.readAt (Elt F) (Rect.unit (s := S256x1024) ![0, 0] S256x1024.size inb).toLoadRect f = f := Memref.readAt_unit_zero (Elt F) cc0_scratch0 hz2 _ f
  iintro H Hk
  iapply (wp_load 𝒱₀ (c : Thread nD τ) none Set.univ (m := sendM) (Finset.subset_univ _)) $$ H
  rw [h]
  iexact Hk

/-- The result so far loaded. -/
theorem load_out (c : Dev nD) {q : PosShare TreeShare} {f : S1024x1024.Idx → Elt F .f32} {inb : ∀ a, (![0, 0] : Fin 2 → Nat) a + S1024x1024.size a ≤ S1024x1024.size a}
    {hl : oM.view.LoadsAt (Rect.unit (s := S1024x1024) ![0, 0] S1024x1024.size inb).toLoadRect} {Q : α → sProp 𝕄} {k : Vec F S1024x1024 .f32 → Prog (TpuEff nD τ sig (Elt F) Λ₀ .tc) α} :
    (oM.view.loc (c : Thread nD τ) ↦{q} f : sProp 𝕄)
      ⊢ iprop(((oM.view.loc (c : Thread nD τ) ↦{q} f) -∗ wp frame (wpE (defs₀ (F := F)) 𝒱₀ (c : Thread nD τ) none) Set.univ (k f) Q)
          -∗ wp frame (wpE (defs₀ (F := F)) 𝒱₀ (c : Thread nD τ) none) Set.univ (.op (.load oM (Rect.unit (s := S1024x1024) ![0, 0] S1024x1024.size inb).toLoadRect hl) k) Q) := by
  have h : oM.view.readAt (Elt F) (Rect.unit (s := S1024x1024) ![0, 0] S1024x1024.size inb).toLoadRect f = f := Memref.readAt_unit_zero (Elt F) cc0_stg3_0 hz2 _ f
  iintro H Hk
  iapply (wp_load 𝒱₀ (c : Thread nD τ) none Set.univ (m := oM) (Finset.subset_univ _)) $$ H
  rw [h]
  iexact Hk

/-- The result so far stored. -/
theorem store_out (c : Dev nD) {f w : S1024x1024.Idx → Elt F .f32} {inb : ∀ a, (![0, 0] : Fin 2 → Nat) a + S1024x1024.size a ≤ S1024x1024.size a}
    {hx : (oM.access (Rect.unit (s := S1024x1024) ![0, 0] S1024x1024.size inb)).Stores Finset.univ}
    {hm : Finset.univ = Finset.univ ∨ ∀ a, (Rect.unit (s := S1024x1024) ![0, 0] S1024x1024.size inb).stride a = 1}
    {Q : α → sProp 𝕄} {k : PUnit → Prog (TpuEff nD τ sig (Elt F) Λ₀ .tc) α} :
    (oM.view.loc (c : Thread nD τ) ↦{fullShare} f : sProp 𝕄)
      ⊢ iprop(((oM.view.loc (c : Thread nD τ) ↦{fullShare} w) -∗ wp frame (wpE (defs₀ (F := F)) 𝒱₀ (c : Thread nD τ) none) Set.univ (k ⟨⟩) Q)
          -∗ wp frame (wpE (defs₀ (F := F)) 𝒱₀ (c : Thread nD τ) none) Set.univ
              (.op (.store oM (Rect.unit (s := S1024x1024) ![0, 0] S1024x1024.size inb) w Finset.univ hx hm) k) Q) := by
  have h : (oM.access (Rect.unit (s := S1024x1024) ![0, 0] S1024x1024.size inb) : View sig .tc _ _ _).write (Elt F) f w Finset.univ = w :=
    Memref.write_access_unit_zero_univ (Elt F) cc0_stg3_0 hz2 _ f w
  iintro H Hk
  iapply (wp_store 𝒱₀ (c : Thread nD τ) none Set.univ (m := oM) (r := Rect.unit (s := S1024x1024) ![0, 0] S1024x1024.size inb) (Mk := Finset.univ) (Finset.subset_univ _)) $$ H
  rw [h]
  iexact Hk

/-- The whole receive buffer stored. -/
theorem store_comm (c : Dev nD) {f w : S4x256x1024.Idx → Elt F .bf16} {inb : ∀ a, (![0, 0, 0] : Fin 3 → Nat) a + S4x256x1024.size a ≤ S4x256x1024.size a}
    {hx : (commM.access (Rect.unit (s := S4x256x1024) ![0, 0, 0] S4x256x1024.size inb)).Stores Finset.univ}
    {hm : Finset.univ = Finset.univ ∨ ∀ a, (Rect.unit (s := S4x256x1024) ![0, 0, 0] S4x256x1024.size inb).stride a = 1}
    {Q : α → sProp 𝕄} {k : PUnit → Prog (TpuEff nD τ sig (Elt F) Λ₀ .tc) α} :
    (commM.view.loc (c : Thread nD τ) ↦{fullShare} f : sProp 𝕄)
      ⊢ iprop(((commM.view.loc (c : Thread nD τ) ↦{fullShare} w) -∗ wp frame (wpE (defs₀ (F := F)) 𝒱₀ (c : Thread nD τ) none) Set.univ (k ⟨⟩) Q)
          -∗ wp frame (wpE (defs₀ (F := F)) 𝒱₀ (c : Thread nD τ) none) Set.univ
              (.op (.store commM (Rect.unit (s := S4x256x1024) ![0, 0, 0] S4x256x1024.size inb) w Finset.univ hx hm) k) Q) := by
  have h : (commM.access (Rect.unit (s := S4x256x1024) ![0, 0, 0] S4x256x1024.size inb) : View sig .tc _ _ _).write (Elt F) f w Finset.univ = w :=
    Memref.write_access_unit_zero_univ (Elt F) cc0_scratch1 hz3 _ f w
  iintro H Hk
  iapply (wp_store 𝒱₀ (c : Thread nD τ) none Set.univ (m := commM) (r := Rect.unit (s := S4x256x1024) ![0, 0, 0] S4x256x1024.size inb) (Mk := Finset.univ) (Finset.subset_univ _)) $$ H
  rw [h]
  iexact Hk

/-- The block of expert `j` stored over its rows: what is kept and what is lent. -/
theorem store_blk (c : Dev nD) (j : Fin 4) {off : Fin 2 → Nat} (ho : off = ![64 * j.val, 0])
    {inb : ∀ a, off a + S64x1024.size a ≤ S256x1024.size a} {w : FVec F S64x1024 .bf16} (hw : w = blk m c j) {f : S256x1024.Idx → Elt F .bf16}
    {hx : (sendM.access (Rect.unit (s := S256x1024) off S64x1024.size inb)).Stores Finset.univ}
    {hm : Finset.univ = Finset.univ ∨ ∀ a, (Rect.unit (s := S256x1024) off S64x1024.size inb).stride a = 1}
    {Q : α → sProp 𝕄} {k : PUnit → Prog (TpuEff nD τ sig (Elt F) Λ₀ .tc) α} :
    (sendM.view.loc (c : Thread nD τ) ↦[bset j]{fullShare} f : sProp 𝕄)
      ⊢ iprop(((keepPts m c j ∗ tailPts m c j ∗ sendPay m c 0 j ∗ sendPay m c 1 j ∗ sendPay m c 2 j)
            -∗ wp frame (wpE (defs₀ (F := F)) 𝒱₀ (c : Thread nD τ) none) Set.univ (k ⟨⟩) Q)
          -∗ wp frame (wpE (defs₀ (F := F)) 𝒱₀ (c : Thread nD τ) none) Set.univ (.op (.store sendM (Rect.unit (s := S256x1024) off S64x1024.size inb) w Finset.univ hx hm) k) Q) := by
  subst ho hw
  iintro H Hk
  iapply (wp_store 𝒱₀ (c : Thread nD τ) none Set.univ (m := sendM) (r := blkR j) (Mk := Finset.univ)
    (by rw [View.setOn_univ, blkR_set])) $$ H
  iintro H
  iapply Hk
  ihave H' := (Entails.of_eq ((pointsTo_congr (blk_written m c j f)).trans (blk_split m c j))) $$ H
  iexact H'

/-- What device `k` sent, read from the rows held of the receive buffer. -/
theorem load_slot (c : Dev nD) (d : Fin 3) {D : Finset (Fin 3)} (hd : d ∈ D) {off : Fin 3 → Nat} (ho : off = ![(fwd d c).val, 0, 0])
    {inb : ∀ a, off a + S1x256x1024.size a ≤ S4x256x1024.size a} {hl : commM.view.LoadsAt (Rect.unit (s := S4x256x1024) off S1x256x1024.size inb).toLoadRect}
    {Q : α → sProp 𝕄} {k : Vec F S1x256x1024 .bf16 → Prog (TpuEff nD τ sig (Elt F) Λ₀ .tc) α} :
    hold c D (commF m c)
      ⊢ iprop((hold c D (commF m c)
            -∗ wp frame (wpE (defs₀ (F := F)) 𝒱₀ (c : Thread nD τ) none) Set.univ (k (slotV m c (fwd d c))) Q)
          -∗ wp frame (wpE (defs₀ (F := F)) 𝒱₀ (c : Thread nD τ) none) Set.univ (.op (.load commM (Rect.unit (s := S4x256x1024) off S1x256x1024.size inb).toLoadRect hl) k) Q) := by
  subst ho
  exact wp_load 𝒱₀ (c : Thread nD τ) none Set.univ (m := commM) (slot_subset c d hd)

end Moves

end Cert.KernelIdealProof

end
-- ==== Proof.KernelIdeal.Body.lean ====
/-
  The body of the kernel on one device, run once for every device.
-/
module

public import proofs.«01_k».proof.Proof.KernelIdeal.Data

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-- What the body starts from: the launch's part, what the device owes, the staged arrays. -/
def bodyPre (c : Dev nD) : sProp 𝕄 :=
  iprop((start m K c ∗ scr c) ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

/-- What it ends in: the result computed, the staged arrays as they were, nothing owed. -/
def bodyPost (c : Dev nD) : sProp 𝕄 :=
  iprop(Φ₁ (F := F) c ∗ (dats m ρ 0 c).owesAt () t₀.succ ∗ stg c cc0_stg0_0 (xstg m c) ∗ stg c cc0_stg1_0 (rstg m c)
    ∗ stg c cc0_stg2_0 (wstg m c) ∗ stg c cc0_stg3_0 (outF m c))

set_option maxHeartbeats 4000000 in
/-- The body, from what it starts from to what it ends in, one rule per operation in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ
          (cc0_body (F := F) xM (Memref.isWhole_whole _) rM (Memref.isWhole_whole _) wM (Memref.isWhole_whole _) oM (Memref.isWhole_whole _)
            sendM (Memref.isWhole_whole _) commM (Memref.isWhole_whole _) cc0_scratch2 cc0_scratch3) Kt := by
  rw [cc0_body_eq_skeleton]; unfold cc0_body_skel
  unfold bodyPre start ghost scr
  iintro ⟨⟨⟨⟨⟨#HR, Hsig, Hpre, HatB, HatO⟩, HcB, HcV, #Hlev⟩, ⟨%fs, Hs⟩, ⟨%fc, Hc⟩⟩,
    Ho, ⟨%d0, %g0, %hg0, Hx⟩, ⟨%d1, %g1, %hg1, Hr⟩, ⟨%d2, %g2, %hg2, Hw⟩, ⟨%d3, %g3, %hg3, Hout⟩⟩, Hk⟩
  have hx : g0 = xstg m c := by rw [hg0]; unfold Dat.before; rw [if_pos (fetch_at 0 (by decide) t₀)]; rfl
  have hr : g1 = rstg m c := by rw [hg1]; unfold Dat.before; rw [if_pos (fetch_at 1 (by decide) t₀)]; rfl
  have hw : g2 = wstg m c := by rw [hg2]; unfold Dat.before; rw [if_pos (fetch_at 2 (by decide) t₀)]; rfl
  subst hx hr hw
  unfold Dat.owesAt Pipeline.owesWithin
  icases Ho with ⟨%W, %hW, HO⟩
  ihave HO := (show owes (c : Thread nD τ) ((dats m ρ 0 c).owed t₀.castSucc) W ⊢ owesE (F := F) c (OB c [0, 1, 2]) from by unfold owesE; iintro H; iexists W; iexact H) $$ HO
  ihave Hsig := (Entails.of_eq (bigSep_fin3 _)) $$ Hsig
  icases Hsig with ⟨Ht0, Ht1, Ht2⟩
  -- the slots
  simp only [k0_part1_eq_skeleton]; unfold k0_part1_skel
  simp only [Prog.lift, Prog.bind_op, Prog.bind_ret, Prog.pure_eq_ret, Prog.bind_assoc, wp_deviceId]
  iapply (load_r c) $$ Hr; iintro Hr
  iapply (wp_load 𝒱₀ (c : Thread nD τ) none Set.univ (m := commM) (Finset.subset_univ _)) $$ Hc; iintro Hc
  -- the receive buffer cleared, its windows handed out with the signals
  simp only [k0_part2_eq_skeleton]; unfold k0_part2_skel
  simp only [Prog.lift, Prog.bind_op, Prog.bind_ret, Prog.pure_eq_ret, Prog.bind_assoc, semSignalWord]
  iapply (store_comm c (w := zeroF (F := F))) $$ Hc; iintro Hc
  ihave Hc := (Entails.of_eq ((hold_univ c _).symm.trans (hold_step c (D := insert 1 (singleton 2)) 0 (by decide) (by decide) _))) $$ Hc
  icases Hc with ⟨Hw0, Hc⟩
  ihave Hc := (Entails.of_eq (hold_step c (D := singleton 2) 1 (by decide) (by decide) _)) $$ Hc
  icases Hc with ⟨Hw1, Hc⟩
  ihave Hc := (Entails.of_eq (hold_step c (D := ∅) 2 (by decide) (by decide) _)) $$ Hc
  icases Hc with ⟨Hw2, Hc⟩
  ihave Hc := (Entails.of_eq (hold_none m c)) $$ Hc
  iapply (step_signal m K c _ 0 [1, 2] (dev1_eq c) (by decide)) $$ HR HO Ht0 Hw0; iintro HO
  iapply (step_signal m K c _ 1 [2] (dev2_eq c) (by decide)) $$ HR HO Ht1 Hw1; iintro HO
  simp only [k0_part3_eq_skeleton]; unfold k0_part3_skel
  simp only [Prog.lift, Prog.bind_op, Prog.bind_ret, Prog.pure_eq_ret, Prog.bind_assoc, semSignalWord, semWaitWord]
  iapply (step_signal m K c _ 2 [] (dev3_eq c) (by decide)) $$ HR HO Ht2 Hw2; iintro HO
  iapply (step_bar m K c (by decide)) $$ HR Hlev HcB HO HatB Hpre; iintro ⟨HO, HzB, HC⟩
  unfold allP
  iapply (load_x c) $$ Hx; iintro Hx
  -- the send buffer stored, one expert's rows at a time, each lent to its three copies
  ihave Hs := (Entails.of_eq ((send_split c fullShare fs).trans (bigSep_fin4 _))) $$ Hs
  icases Hs with ⟨Hb0, Hb1, Hb2, Hb3⟩
  ihave HS := (sepL_nil (sendRes (F := F) c)) $$ []
  · iempintro
  iapply (wp_load 𝒱₀ (c : Thread nD τ) none Set.univ (m := wM) (Finset.subset_univ _)) $$ Hw; iintro Hw
  iapply (wp_load 𝒱₀ (c : Thread nD τ) none Set.univ (m := sendM) (blk_sub 0)) $$ Hb0; iintro Hb0
  iapply (store_blk m c 0 rfl rfl) $$ Hb0; iintro ⟨Hb0, Hl0, HP0, HP1, HP2⟩
  simp only [k0_part4_eq_skeleton]; unfold k0_part4_skel
  simp only [k0_part5_eq_skeleton]; unfold k0_part5_skel
  simp only [Prog.lift, Prog.bind_op, Prog.bind_ret, Prog.pure_eq_ret, Prog.bind_assoc]
  iapply (step_send m K c _ 0 0 _ _ (dev4_eq c) rfl (dst_congr (off2_eq c) _) (ssem_congr rfl _) (rsem_congr (off1_eq c) _)) $$ HR HP0 HC HS HO; iintro ⟨HC, HS, HO⟩
  iapply (step_send m K c _ 1 0 _ _ (dev5_eq c) rfl (dst_congr (off2_eq c) _) (ssem_congr rfl _) (rsem_congr (off1_eq c) _)) $$ HR HP1 HC HS HO; iintro ⟨HC, HS, HO⟩
  iapply (step_send m K c _ 2 0 _ _ (dev6_eq c) rfl (dst_congr (off2_eq c) _) (ssem_congr rfl _) (rsem_congr (off1_eq c) _)) $$ HR HP2 HC HS HO; iintro ⟨HC, HS, HO⟩
  iapply (wp_load 𝒱₀ (c : Thread nD τ) none Set.univ (m := wM) (Finset.subset_univ _)) $$ Hw; iintro Hw
  iapply (wp_load 𝒱₀ (c : Thread nD τ) none Set.univ (m := sendM) (blk_sub 1)) $$ Hb1; iintro Hb1
  iapply (store_blk m c 1 rfl rfl) $$ Hb1; iintro ⟨Hb1, Hl1, HP0, HP1, HP2⟩
  simp only [k0_part6_eq_skeleton]; unfold k0_part6_skel
  simp only [k0_part7_eq_skeleton]; unfold k0_part7_skel
  simp only [Prog.lift, Prog.bind_op, Prog.bind_ret, Prog.pure_eq_ret, Prog.bind_assoc]
  iapply (step_send m K c _ 0 1 _ _ (dev7_eq c) rfl (dst_congr (off4_eq c) _) (ssem_congr rfl _) (rsem_congr (off3_eq c) _)) $$ HR HP0 HC HS HO; iintro ⟨HC, HS, HO⟩
  iapply (step_send m K c _ 1 1 _ _ (dev8_eq c) rfl (dst_congr (off4_eq c) _) (ssem_congr rfl _) (rsem_congr (off3_eq c) _)) $$ HR HP1 HC HS HO; iintro ⟨HC, HS, HO⟩
  iapply (step_send m K c _ 2 1 _ _ (dev9_eq c) rfl (dst_congr (off4_eq c) _) (ssem_congr rfl _) (rsem_congr (off3_eq c) _)) $$ HR HP2 HC HS HO; iintro ⟨HC, HS, HO⟩
  iapply (wp_load 𝒱₀ (c : Thread nD τ) none Set.univ (m := wM) (Finset.subset_univ _)) $$ Hw; iintro Hw
  iapply (wp_load 𝒱₀ (c : Thread nD τ) none Set.univ (m := sendM) (blk_sub 2)) $$ Hb2; iintro Hb2
  iapply (store_blk m c 2 rfl rfl) $$ Hb2; iintro ⟨Hb2, Hl2, HP0, HP1, HP2⟩
  simp only [k0_part8_eq_skeleton]; unfold k0_part8_skel
  simp only [k0_part9_eq_skeleton]; unfold k0_part9_skel
  simp only [Prog.lift, Prog.bind_op, Prog.bind_ret, Prog.pure_eq_ret, Prog.bind_assoc]
  iapply (step_send m K c _ 0 2 _ _ (dev10_eq c) rfl (dst_congr (off6_eq c) _) (ssem_congr rfl _) (rsem_congr (off5_eq c) _)) $$ HR HP0 HC HS HO; iintro ⟨HC, HS, HO⟩
  iapply (step_send m K c _ 1 2 _ _ (dev11_eq c) rfl (dst_congr (off6_eq c) _) (ssem_congr rfl _) (rsem_congr (off5_eq c) _)) $$ HR HP1 HC HS HO; iintro ⟨HC, HS, HO⟩
  iapply (step_send m K c _ 2 2 _ _ (dev12_eq c) rfl (dst_congr (off6_eq c) _) (ssem_congr rfl _) (rsem_congr (off5_eq c) _)) $$ HR HP2 HC HS HO; iintro ⟨HC, HS, HO⟩
  iapply (wp_load 𝒱₀ (c : Thread nD τ) none Set.univ (m := wM) (Finset.subset_univ _)) $$ Hw; iintro Hw
  iapply (wp_load 𝒱₀ (c : Thread nD τ) none Set.univ (m := sendM) (blk_sub 3)) $$ Hb3; iintro Hb3
  iapply (store_blk m c 3 rfl rfl) $$ Hb3; iintro ⟨Hb3, Hl3, HP0, HP1, HP2⟩
  simp only [k0_part10_eq_skeleton]; unfold k0_part10_skel
  simp only [k0_part11_eq_skeleton]; unfold k0_part11_skel
  simp only [Prog.lift, Prog.bind_op, Prog.bind_ret, Prog.pure_eq_ret, Prog.bind_assoc]
  iapply (step_send m K c _ 0 3 _ _ (dev13_eq c) rfl (dst_congr (off8_eq c) _) (ssem_congr rfl _) (rsem_congr (off7_eq c) _)) $$ HR HP0 HC HS HO; iintro ⟨HC, HS, HO⟩
  iapply (step_send m K c _ 1 3 _ _ (dev14_eq c) rfl (dst_congr (off8_eq c) _) (ssem_congr rfl _) (rsem_congr (off7_eq c) _)) $$ HR HP1 HC HS HO; iintro ⟨HC, HS, HO⟩
  iapply (step_send m K c _ 2 3 _ _ (dev15_eq c) rfl (dst_congr (off8_eq c) _) (ssem_congr rfl _) (rsem_congr (off7_eq c) _)) $$ HR HP2 HC HS HO; iintro ⟨HC, HS, HO⟩
  -- the device's own experts
  ihave Hs := (Entails.of_eq ((send_split c fullShare.left (sendF m c)).trans (bigSep_fin4 _)).symm) $$ [Hb0 Hb1 Hb2 Hb3]
  · unfold keepPts
    isplitl [Hb0]; · iexact Hb0
    isplitl [Hb1]; · iexact Hb1
    isplitl [Hb2] <;> iassumption
  iapply (load_send c) $$ Hs; iintro Hs
  iapply (load_out c) $$ Hout; iintro Hout
  iapply (store_out c) $$ Hout; iintro Hout
  ihave HV := (Entails.of_eq (show (bigSep Finset.univ fun p => recvRes (F := F) c p) = sepL (recvRes (F := F) c) recvP from by
    rw [sepL_eq _ recvP (by decide), show recvP.toFinset = Finset.univ by decide])) $$ HcV
  unfold recvP
  ihave HZ := (sepL_nil (recvZero (F := F) c)) $$ []
  · iempintro
  ihave HO := (Entails.of_eq (show owesE (F := F) c (OS c []) = owesE c 0 from rfl)) $$ HO
  -- the experts of the device one place on
  simp only [k0_part12_eq_skeleton]; unfold k0_part12_skel
  simp only [Prog.lift, Prog.bind_op, Prog.bind_ret, Prog.pure_eq_ret, Prog.bind_assoc]
  iapply (step_recv m K c 0 0 _ _ (rsem_congr (off9_eq c 0) _)) $$ HR HV HZ HO; iintro ⟨HV, HZ, HO, Hq0⟩
  iapply (step_recv m K c 0 1 _ _ (rsem_congr (off11_eq c 0) _)) $$ HR HV HZ HO; iintro ⟨HV, HZ, HO, Hq1⟩
  simp only [k0_part13_eq_skeleton]; unfold k0_part13_skel
  simp only [Prog.lift, Prog.bind_op, Prog.bind_ret, Prog.pure_eq_ret, Prog.bind_assoc]
  iapply (step_recv m K c 0 2 _ _ (rsem_congr (off13_eq c 0) _)) $$ HR HV HZ HO; iintro ⟨HV, HZ, HO, Hq2⟩
  iapply (step_recv m K c 0 3 _ _ (rsem_congr (off15_eq c 0) _)) $$ HR HV HZ HO; iintro ⟨HV, HZ, HO, Hq3⟩
  ihave Hc := (hold_join m c (D := ∅) (D' := singleton 0) 0 (by decide) (by decide)) $$ Hc Hq0 Hq1 Hq2 Hq3
  iapply (load_out c) $$ Hout; iintro Hout
  iapply (load_slot m c 0 (D := singleton 0) (by decide) (off17_eq c 0)) $$ Hc; iintro Hc
  iapply (load_out c) $$ Hout; iintro Hout
  iapply (store_out c) $$ Hout; iintro Hout
  -- those of the device three places on
  simp only [k0_part14_eq_skeleton]; unfold k0_part14_skel
  simp only [Prog.lift, Prog.bind_op, Prog.bind_ret, Prog.pure_eq_ret, Prog.bind_assoc]
  iapply (step_recv m K c 2 0 _ _ (rsem_congr (off9_eq c 2) _)) $$ HR HV HZ HO; iintro ⟨HV, HZ, HO, Hq0⟩
  iapply (step_recv m K c 2 1 _ _ (rsem_congr (off11_eq c 2) _)) $$ HR HV HZ HO; iintro ⟨HV, HZ, HO, Hq1⟩
  simp only [k0_part15_eq_skeleton]; unfold k0_part15_skel
  simp only [Prog.lift, Prog.bind_op, Prog.bind_ret, Prog.pure_eq_ret, Prog.bind_assoc]
  iapply (step_recv m K c 2 2 _ _ (rsem_congr (off13_eq c 2) _)) $$ HR HV HZ HO; iintro ⟨HV, HZ, HO, Hq2⟩
  iapply (step_recv m K c 2 3 _ _ (rsem_congr (off15_eq c 2) _)) $$ HR HV HZ HO; iintro ⟨HV, HZ, HO, Hq3⟩
  ihave Hc := (hold_join m c (D := singleton 0) (D' := insert 0 (singleton 2)) 2 (by decide) (by decide)) $$ Hc Hq0 Hq1 Hq2 Hq3
  iapply (load_out c) $$ Hout; iintro Hout
  iapply (load_slot m c 2 (D := insert 0 (singleton 2)) (by decide) (off17_eq c 2)) $$ Hc; iintro Hc
  iapply (load_out c) $$ Hout; iintro Hout
  iapply (store_out c) $$ Hout; iintro Hout
  -- those of the device two places on
  simp only [k0_part16_eq_skeleton]; unfold k0_part16_skel
  simp only [Prog.lift, Prog.bind_op, Prog.bind_ret, Prog.pure_eq_ret, Prog.bind_assoc]
  iapply (step_recv m K c 1 0 _ _ (rsem_congr (off9_eq c 1) _)) $$ HR HV HZ HO; iintro ⟨HV, HZ, HO, Hq0⟩
  iapply (step_recv m K c 1 1 _ _ (rsem_congr (off11_eq c 1) _)) $$ HR HV HZ HO; iintro ⟨HV, HZ, HO, Hq1⟩
  iapply (step_recv m K c 1 2 _ _ (rsem_congr (off13_eq c 1) _)) $$ HR HV HZ HO; iintro ⟨HV, HZ, HO, Hq2⟩
  simp only [k0_part17_eq_skeleton]; unfold k0_part17_skel
  simp only [Prog.lift, Prog.bind_op, Prog.bind_ret, Prog.pure_eq_ret, Prog.bind_assoc]
  iapply (step_recv m K c 1 3 _ _ (rsem_congr (off15_eq c 1) _)) $$ HR HV HZ HO; iintro ⟨HV, HZ, HO, Hq3⟩
  ihave Hc := (hold_join m c (D := insert 0 (singleton 2)) (D' := Finset.univ) 1 (by decide) (by decide)) $$ Hc Hq0 Hq1 Hq2 Hq3
  iapply (load_out c) $$ Hout; iintro Hout
  iapply (load_slot m c 1 (D := Finset.univ) (by decide) (off17_eq c 1)) $$ Hc; iintro Hc
  iapply (load_out c) $$ Hout; iintro Hout
  iapply (store_out c) $$ Hout; iintro Hout
  ihave Hc := (Entails.of_eq (hold_univ c _)) $$ Hc
  -- the copies' sendings
  ihave HS := (Entails.of_eq (sepL_perm (sendRes (F := F) c) (l' := allP) (by decide) (by decide) (by decide))) $$ HS
  unfold allP
  ihave HY := (sepL_nil (sendZero (F := F) c)) $$ []
  · iempintro
  iapply (step_sent m K c 0 0 _ _ (ssem_congr rfl _)) $$ HR HS HY HO; iintro ⟨HS, HY, HO, Hp00⟩
  iapply (step_sent m K c 1 0 _ _ (ssem_congr rfl _)) $$ HR HS HY HO; iintro ⟨HS, HY, HO, Hp10⟩
  simp only [k0_part18_eq_skeleton]; unfold k0_part18_skel
  simp only [Prog.lift, Prog.bind_op, Prog.bind_ret, Prog.pure_eq_ret, Prog.bind_assoc]
  iapply (step_sent m K c 2 0 _ _ (ssem_congr rfl _)) $$ HR HS HY HO; iintro ⟨HS, HY, HO, Hp20⟩
  iapply (step_sent m K c 0 1 _ _ (ssem_congr rfl _)) $$ HR HS HY HO; iintro ⟨HS, HY, HO, Hp01⟩
  iapply (step_sent m K c 1 1 _ _ (ssem_congr rfl _)) $$ HR HS HY HO; iintro ⟨HS, HY, HO, Hp11⟩
  iapply (step_sent m K c 2 1 _ _ (ssem_congr rfl _)) $$ HR HS HY HO; iintro ⟨HS, HY, HO, Hp21⟩
  simp only [k0_part19_eq_skeleton]; unfold k0_part19_skel
  simp only [Prog.lift, Prog.bind_op, Prog.bind_ret, Prog.pure_eq_ret, Prog.bind_assoc]
  iapply (step_sent m K c 0 2 _ _ (ssem_congr rfl _)) $$ HR HS HY HO; iintro ⟨HS, HY, HO, Hp02⟩
  iapply (step_sent m K c 1 2 _ _ (ssem_congr rfl _)) $$ HR HS HY HO; iintro ⟨HS, HY, HO, Hp12⟩
  iapply (step_sent m K c 2 2 _ _ (ssem_congr rfl _)) $$ HR HS HY HO; iintro ⟨HS, HY, HO, Hp22⟩
  iapply (step_sent m K c 0 3 _ _ (ssem_congr rfl _)) $$ HR HS HY HO; iintro ⟨HS, HY, HO, Hp03⟩
  iapply (step_sent m K c 1 3 _ _ (ssem_congr rfl _)) $$ HR HS HY HO; iintro ⟨HS, HY, HO, Hp13⟩
  iapply (step_sent m K c 2 3 _ _ (ssem_congr rfl _)) $$ HR HS HY HO; iintro ⟨HS, HY, HO, Hp23⟩
  -- the semaphores no copy uses
  ihave HatO := (Entails.of_eq (bigSep_fin4 _)) $$ HatO
  icases HatO with ⟨Ha0, Ha1, Ha2, Ha3⟩
  imod (own_close m K c 0) $$ [Ha0] with Ha0
  · isplitr; · iexact HR
    iexact Ha0
  imod (own_close m K c 1) $$ [Ha1] with Ha1
  · isplitr; · iexact HR
    iexact Ha1
  imod (own_close m K c 2) $$ [Ha2] with Ha2
  · isplitr; · iexact HR
    iexact Ha2
  imod (own_close m K c 3) $$ [Ha3] with Ha3
  · isplitr; · iexact HR
    iexact Ha3
  -- the send buffer whole again
  ihave Hs := (Entails.of_eq (send_split c fullShare.left (sendF m c))) $$ Hs
  ihave Hs := (blk_join m c) $$ [Hs Hl0 Hl1 Hl2 Hl3 Hp00 Hp10 Hp20 Hp01 Hp11 Hp21 Hp02 Hp12 Hp22 Hp03 Hp13 Hp23]
  · isplitl [Hs]; · iexact Hs
    rw [bigSep_fin4, bigSep_fin4]
    isplitl [Hl0 Hl1 Hl2 Hl3]
    · isplitl [Hl0]; · iexact Hl0
      isplitl [Hl1]; · iexact Hl1
      isplitl [Hl2] <;> iassumption
    isplitl [Hp00 Hp10 Hp20]
    · isplitl [Hp00]; · iexact Hp00
      isplitl [Hp10] <;> iassumption
    isplitl [Hp01 Hp11 Hp21]
    · isplitl [Hp01]; · iexact Hp01
      isplitl [Hp11] <;> iassumption
    isplitl [Hp02 Hp12 Hp22]
    · isplitl [Hp02]; · iexact Hp02
      isplitl [Hp12] <;> iassumption
    · isplitl [Hp03]; · iexact Hp03
      isplitl [Hp13] <;> iassumption
  ihave HY := (Entails.of_eq ((sepL_eq (sendZero (F := F) c) _ (by decide)).trans (congrArg (fun S => bigSep S (sendZero (F := F) c)) (show _ = Finset.univ by decide)))) $$ HY
  ihave HZ := (Entails.of_eq ((sepL_eq (recvZero (F := F) c) _ (by decide)).trans (congrArg (fun S => bigSep S (recvZero (F := F) c)) (show _ = Finset.univ by decide)))) $$ HZ
  rw [wp_ret]
  imodintro
  iapply Hk
  unfold bodyPost Φ₁ scr
  isplitl [Hs Hc HzB HY HZ Ha0 Ha1 Ha2 Ha3]
  · isplitl [Hs Hc]
    · isplitl [Hs]
      · iexists _; iexact Hs
      · iexists _; iexact Hc
    isplitl [HzB]; · iexact HzB
    isplitl [HY]; · iexact HY
    isplitl [HZ]; · iexact HZ
    rw [bigSep_fin4]
    isplitl [Ha0]; · iexact Ha0
    isplitl [Ha1]; · iexact Ha1
    isplitl [Ha2] <;> iassumption
  unfold Dat.owesAt Pipeline.owesWithin owesE
  isplitl [HO]
  · icases HO with ⟨%W', HO⟩
    iexists W'
    isplitr; · ipureintro; exact fun _ _ => Or.inl trivial
    iexact HO
  isplitl [Hx]; · iexists _; isplitr; · (ipureintro; rfl)
                  iexact Hx
  isplitl [Hr]; · iexists _; isplitr; · (ipureintro; rfl)
                  iexact Hr
  isplitl [Hw]; · iexists _; isplitr; · (ipureintro; rfl)
                  iexact Hw
  iexists _; isplitr; · (ipureintro; rfl)
  iexact Hout

/-- What the body obligation gives. -/
def bodyGiven (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

set_option maxRecDepth 4000 in
/-- The pipeline's obligation on the body of device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyGiven m ρ c ⊢ wp frame (wpE (defs₀ (F := F)) 𝒱₀ (c : Thread nD τ) none) Set.univ
    (cc0_body (F := F) xM (Memref.isWhole_whole _) rM (Memref.isWhole_whole _) wM (Memref.isWhole_whole _) oM (Memref.isWhole_whole _)
            sendM (Memref.isWhole_whole _) commM (Memref.isWhole_whole _) cc0_scratch2 cc0_scratch3) (fun _ => bodyPost m ρ c)
  unfold bodyGiven Φ₀
  iintro ⟨⟨⟨%K, Hg⟩, Hscr⟩, Hrest⟩
  iapply (sound_body m ρ K c fun _ => bodyPost m ρ c)
  unfold bodyPre
  isplitr []
  · isplitl [Hg Hscr]
    · isplitl [Hg] <;> iassumption
    · iexact Hrest
  · iintro H; iexact H

end Cert.KernelIdealProof

end
-- ==== Proof.KernelIdeal.Deal.lean ====
/-
  How the launch deals out the protocol's cells: each device's invariants, positions and the tokens of the duties it pays.
-/
module

public import proofs.«01_k».proof.Proof.KernelIdeal.Body

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens as minted -/

def osem : Fin 28 → SemLoc sig := fun q => .dma ⟨4 + q.val, by have := q.isLt; show _ < 32; omega⟩

theorem ownSemFacts : Pipeline.OwnSemFacts cfg0.spec osem := by decide

/-- Which of a device's cells a semaphore is. -/
def cIdx : SemLoc sig → Option CI
  | .reg _ => some (.inl ())
  | .dma q => match sIdx q with
    | some p => some (.inr (.inl p))
    | none => (rIdx q).map fun p => .inr (.inr p)

theorem cIdx_csem (k : CI) : cIdx (csem k) = some k := by
  rcases k with u | ⟨d, j⟩ | ⟨k, j⟩
  · rfl
  · simp only [csem, cIdx, sIdx_sS]
  · simp only [csem, cIdx, sIdx_rS, rIdx_rS]; rfl

theorem csem_inj : Function.Injective csem := fun k k' h => by
  have := congrArg cIdx h
  rw [cIdx_csem, cIdx_csem] at this
  exact Option.some.inj this

theorem kcell_inj : Function.Injective (kcell : Dev nD × CI → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- The duties a device pays: its three signals, and for each copy the sending and the landing. -/
abbrev TI : Type := Fin 3 ⊕ (Fin 3 × Fin 4) ⊕ (Fin 3 × Fin 4)

def tokCell : Dev nD × TI → Dev nD × CI
  | (c, .inl d) => (fwd d c, .inl ())
  | (c, .inr (.inl p)) => (c, .inr (.inl p))
  | (c, .inr (.inr p)) => (fwd p.1 c, .inr (.inr (c, p.2)))
def tokDuty : TI → Fin 3
  | .inl d => d
  | .inr _ => 0
def tokOf (x : Dev nD × TI) : GSem nD τ sig × ℕ × Fin 3 := (kcell (tokCell x), 0, tokDuty x.2)

theorem fwd_inj_dev {d : Fin 3} {c c' : Dev nD} (h : fwd d c = fwd d c') : c = c' := by revert d c c'; decide

theorem tokOf_inj : Function.Injective tokOf := by
  rintro ⟨c, t⟩ ⟨c', t'⟩ h
  have h1 : tokCell (c, t) = tokCell (c', t') := kcell_inj (congrArg Prod.fst h)
  have h2 : tokDuty t = tokDuty t' := congrArg (fun x : GSem nD τ sig × ℕ × Fin 3 => x.2.2) h
  rcases t with d | p | p <;> rcases t' with d' | p' | p' <;> simp only [tokCell, tokDuty, Prod.mk.injEq, reduceCtorEq, and_false, Sum.inr.injEq, Sum.inl.injEq] at h1 h2
  · subst h2; rw [fwd_inj_dev h1.1]
  · rw [h1.1, h1.2]
  · obtain ⟨h3, h4, h5⟩ := h1
    subst h4
    have : p = p' := Prod.ext (fwd_inj h3) h5
    rw [this]

def cells : Finset (GSem nD τ sig) := Finset.univ.map ⟨kcell, kcell_inj⟩
def toks : Finset (GSem nD τ sig × ℕ × Fin 3) := Finset.univ.map ⟨tokOf, tokOf_inj⟩

/-- What the launch begins with. -/
def u₀ : UU := (initOf (Pipeline.cells cfgs cellOf_inj) (Pipeline.launchToks cfgs cellOf_inj), initOf cells toks)

/-! ## What each device is dealt -/

def payToks (c : Dev nD) : sProp 𝕄 := bigSep Finset.univ fun t : TI => dutyTok ER (kcell (tokCell (c, t))) 0 (tokDuty t)
def positions (c : Dev nD) : sProp 𝕄 := bigSep Finset.univ fun k : CI => atPos ER (kcell (c, k)) 0 ∅ 0
def reacheds (c : Dev nD) : sProp 𝕄 := bigSep Finset.univ fun k : CI => reached ER (kcell (c, k)) 0
/-- What the launch deals device `c`, -/
def G (c : Dev nD) : sProp 𝕄 :=
  iprop((bigSep Finset.univ fun k : CI => roundState ER (sch m) (kcell (c, k)) 0) ∗ positions c ∗ reacheds c ∗ payToks c)
/-- and what is made of it, all devices' cells known to each. -/
def G' (c : Dev nD) : sProp 𝕄 :=
  iprop((∃ K, ghost m K c) ∗ bigSep Finset.univ fun p : Fin 3 × Fin 4 => atPos ER (recvCell c (fwd p.1 c) p.2) 0 ∅ 0)

theorem fund_cells : BI.own (ER (initOf cells toks)) ⊢ (|==> bigSep Finset.univ (G m) : sProp 𝕄) := by
  have hX (Φ : GSem nD τ sig → sProp 𝕄) : bigSep cells Φ = bigSep Finset.univ fun c : Dev nD => bigSep Finset.univ fun k : CI => Φ (kcell (c, k)) := by
    unfold cells; rw [bigSep_map, bigSep_univ_prod]; rfl
  have hT : bigSep toks (fun x => (dutyTok ER x.1 x.2.1 x.2.2 : sProp 𝕄)) = bigSep Finset.univ fun c : Dev nD => payToks c := by
    unfold toks payToks; rw [bigSep_map, bigSep_univ_prod]; rfl
  iintro HX
  imod (Rounds.fund ER (sch m) cells toks) $$ HX with ⟨Hst, Hr, Hat, Htok⟩
  imodintro
  ihave Hst := (Entails.of_eq (hX fun g => roundState ER (sch m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G positions reacheds
  simp only [bigSep_sep']
  isplitl [Hst]; · iexact Hst
  isplitl [Hat]; · iexact Hat
  isplitl [Hr] <;> iassumption

omit [FloatOps F] in
/-- Of all senders: the device itself and the three others. -/
theorem senders_split (c : Dev nD) (Φ : Dev nD × Fin 4 → sProp 𝕄) :
    bigSep Finset.univ Φ = iprop((bigSep Finset.univ fun j : Fin 4 => Φ (c, j)) ∗ bigSep Finset.univ fun p : Fin 3 × Fin 4 => Φ (fwd p.1 c, p.2)) := by
  have he : (Finset.univ.erase c : Finset (Dev nD)) = Finset.univ.map ⟨fun d : Fin 3 => fwd d c, fun _ _ h => fwd_inj h⟩ := by revert c; decide
  rw [bigSep_univ_prod, bigSep_univ_at _ c, he, bigSep_map, bigSep_univ_prod (fun p : Fin 3 × Fin 4 => Φ (fwd p.1 c, p.2))]
  rfl

omit [FloatOps F] in
theorem cells_split (c : Dev nD) (Φ : CI → sProp 𝕄) :
    bigSep Finset.univ Φ = iprop(Φ (.inl ()) ∗ (bigSep Finset.univ fun p : Fin 3 × Fin 4 => Φ (.inr (.inl p)))
      ∗ (bigSep Finset.univ fun j : Fin 4 => Φ (.inr (.inr (c, j)))) ∗ bigSep Finset.univ fun p : Fin 3 × Fin 4 => Φ (.inr (.inr (fwd p.1 c, p.2)))) := by
  rw [bigSep_univ_sum, bigSep_univ_sum, senders_split c fun p => Φ (.inr (.inr p)), bigSep_univ_eq_bigSepL [()] (by decide) (by decide)]
  rfl

/-- The kernel's own semaphores, numbered. -/
def semEquiv : (Fin 3 × Fin 4) ⊕ (Dev nD × Fin 4) ≃ Fin 28 :=
  (Equiv.sumCongr finProdFinEquiv (finProdFinEquiv (m := 4) (n := 4))).trans finSumFinEquiv
theorem osem_equiv (x : (Fin 3 × Fin 4) ⊕ (Dev nD × Fin 4)) : osem (semEquiv x) = csem (.inr x) := by revert x; decide

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun x : (Fin 3 × Fin 4) ⊕ (Dev nD × Fin 4) => semVal (kcell (c, .inr x)) 0 := by
  unfold Pipeline.ownSems0
  rw [bigSep_univ_equiv semEquiv]
  exact bigSep_congr fun x _ => by rw [osem_equiv]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's own semaphores are its cells, all at zero. -/
theorem sems_eq (c : Dev nD) :
    iprop(unscopedSems0 c ∗ Pipeline.ownSems0 (Ix := Unit) (Name := ℕ) (U := UU) (Lvl := ℕ) (Val := Elt F) (τ := τ) osem c)
      = (bigSep Finset.univ fun k : CI => semVal (kcell (c, k)) 0 : sProp 𝕄) := by
  rw [ownSems0_eq, unscopedSems0_eq, bigSep_univ_sum (fun k : CI => semVal (kcell (c, k)) 0), bigSep_univ_eq_bigSepL [()] (by decide) (by decide)]
  rfl

/-- Each device's cells put under invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (sch m) κ (kcell (c, k)))) ∗ reacheds c ∗ positions c ∗ payToks c) := by
  unfold G
  iintro ⟨Hos, Hus, Hst, Hat, Hr, Htok⟩
  ihave Hv := (Entails.of_eq (sems_eq (F := F) c)) $$ [Hos Hus]
  · isplitl [Hus] <;> iassumption
  imod (show iprop((bigSep Finset.univ fun k : CI => semVal (kcell (c, k)) 0) ∗ bigSep Finset.univ fun k : CI => roundState ER (sch m) (kcell (c, k)) 0)
      ⊢ (|={Set.univ}=> bigSep Finset.univ fun k : CI => iprop(∃ κ : ℕ, cellInv ER (sch m) κ (kcell (c, k))) : sProp 𝕄) from by
        rw [← bigSep_sep']
        exact (bigSep_mono fun k _ => (Rounds.body_intro ER (sch m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

/-- With every cell known, a device has what its body needs of the protocol. -/
theorem ghost_intro (K : Dev nD × CI → ℕ) (c : Dev nD) : iprop(records m K ∗ positions c ∗ payToks c) ⊢ G' m c := by
  unfold positions payToks G' ghost
  rw [cells_split c fun k : CI => atPos ER (kcell (c, k)) 0 ∅ 0]
  have htok : (bigSep Finset.univ fun t : TI => dutyTok ER (kcell (tokCell (c, t))) 0 (tokDuty t) : sProp 𝕄)
      = iprop((bigSep Finset.univ fun d : Fin 3 => dutyTok ER (barCell (fwd d c)) 0 d)
        ∗ (bigSep Finset.univ fun p : Fin 3 × Fin 4 => dutyTok ER (sendCell c p.1 p.2) 0 0)
        ∗ bigSep Finset.univ fun p : Fin 3 × Fin 4 => dutyTok ER (recvCell (fwd p.1 c) c p.2) 0 0) := by
    rw [bigSep_univ_sum, bigSep_univ_sum]; rfl
  have hpre : (bigSep Finset.univ fun p => preCopy (F := F) c p : sProp 𝕄)
      = iprop((bigSep Finset.univ fun p : Fin 3 × Fin 4 => dutyTok ER (sendCell c p.1 p.2) 0 0)
        ∗ (bigSep Finset.univ fun p : Fin 3 × Fin 4 => dutyTok ER (recvCell (fwd p.1 c) c p.2) 0 0)
        ∗ bigSep Finset.univ fun p : Fin 3 × Fin 4 => atPos ER (sendCell c p.1 p.2) 0 ∅ 0) := by
    unfold preCopy; rw [bigSep_sep', bigSep_sep']
  rw [hpre, htok]
  iintro ⟨HR, ⟨HaB, HaS, HaO, HaV⟩, HtB, HtS, HtV⟩
  isplitr [HaV]
  · iexists K
    isplitl [HR]; · iexact HR
    isplitl [HtB]; · iexact HtB
    isplitl [HtS HtV HaS]
    · isplitl [HtS]; · iexact HtS
      isplitl [HtV]; · iexact HtV
      iexact HaS
    isplitl [HaB]; · iexact HaB
    iexact HaO
  · iexact HaV

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine BI.Entails.trans (sep_mono_left (BI.bigSep_of_persistent S R)) ?_
  rw [← bigSep_sep']
  exact bigSep_mono h

/-- Every device told of every cell. -/
theorem regroup :
    (bigSep Finset.univ fun c : Dev nD => iprop((bigSep Finset.univ fun k : CI => iprop(∃ κ : ℕ, cellInv ER (sch m) κ (kcell (c, k))))
        ∗ reacheds c ∗ positions c ∗ payToks c) : sProp 𝕄)
      ⊢ bigSep Finset.univ (G' m) := by
  unfold reacheds
  rw [bigSep_sep', bigSep_sep', ← bigSep_univ_prod (fun ck : Dev nD × CI => iprop(∃ κ : ℕ, cellInv ER (sch m) κ (kcell ck))),
    ← bigSep_univ_prod (fun ck : Dev nD × CI => (reached ER (kcell ck) 0 : sProp 𝕄))]
  iintro ⟨HI, #HR, Hlin⟩
  ihave HK := (BI.bigSep_exists_pi Finset.univ (fun (ck : Dev nD × CI) (κ : ℕ) => (cellInv ER (sch m) κ (kcell ck) : sProp 𝕄))) $$ HI
  icases HK with ⟨%K, #HI⟩
  iapply (with_persistent (R := records m K) fun c _ => ghost_intro m K c)
  isplitr
  · unfold records; isplitl; · iexact HI
    iexact HR
  · iexact Hlin

/-- All devices' semaphores turned into the protocol's cells at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdealProof

end
-- ==== Proof.KernelIdeal.Launch.lean ====
/-
  The launch: what the devices owe each other at the start, and the run of the whole program.
-/
module

public import proofs.«01_k».proof.Proof.KernelIdeal.Deal
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The credits at launch -/

theorem owed_copies (e : Dev nD) (x : Dev nD × CI) (l : List (Fin 3 × Fin 4)) :
    OS e l (kcell x) () = N * l.countP fun p => decide (x = (fwd p.1 e, .inr (.inr (e, p.2)))) := by
  induction l with
  | nil => rfl
  | cons p l ih =>
    show (OS e l + tallyAt (recvCell (fwd p.1 e) e p.2) () N) (kcell x) () = _
    rw [Pi.add_apply, Finsupp.add_apply, ih, List.countP_cons, Nat.mul_add]
    congr 1
    have : recvCell (fwd p.1 e) e p.2 = kcell (fwd p.1 e, .inr (.inr (e, p.2))) := rfl
    rw [this, tallyAt_apply]
    by_cases h : x = (fwd p.1 e, .inr (.inr (e, p.2)))
    · rw [if_pos ⟨congrArg kcell h, rfl⟩, if_pos (decide_eq_true h), Nat.mul_one]
    · rw [if_neg (fun h' => h (kcell_inj h'.1)), if_neg (by rw [decide_eq_false h]; exact Bool.false_ne_true), Nat.mul_zero]

theorem owed_all (e : Dev nD) (x : Dev nD × CI) (l : List (Fin 3)) :
    OB e l (kcell x) () = (l.countP fun d => decide (x = (fwd d e, .inl ()))) + N * allP.countP fun p => decide (x = (fwd p.1 e, .inr (.inr (e, p.2)))) := by
  induction l with
  | nil => show OS e allP (kcell x) () = _; rw [owed_copies]; exact (Nat.zero_add _).symm
  | cons d l ih =>
    show (OB e l + tallyAt (barCell (fwd d e)) () 1) (kcell x) () = _
    have : barCell (fwd d e) = kcell (fwd d e, .inl ()) := rfl
    rw [Pi.add_apply, Finsupp.add_apply, ih, List.countP_cons, this, tallyAt_apply]
    by_cases h : x = (fwd d e, .inl ())
    · rw [if_pos ⟨congrArg kcell h, rfl⟩, if_pos (decide_eq_true h)]; omega
    · rw [if_neg (fun h' => h (kcell_inj h'.1)), if_neg (by rw [decide_eq_false h]; exact Bool.false_ne_true)]; omega

omit [FloatOps F] in
theorem launch_cell (x : Dev nD × CI) (n : ℕ) (h : (∑ e : Dev nD, OB e [0, 1, 2] (kcell x) ()) = n) :
    tallyOn (kcell x) (launchCredit (Pipeline.owing O₀) 0 (kcell x)) = (tallyAt (kcell x) () n : CellTallies nD τ sig Unit) := by
  unfold tallyAt; refine congrArg _ (Finsupp.ext fun u => ?_); cases u
  rw [Pipeline.launchCredit_owing, Finsupp.single_eq_same]; exact h

theorem launch_bar (c : Dev nD) : tallyOn (barCell c) (launchCredit (Pipeline.owing O₀) 0 (barCell c)) = (tallyAt (barCell c) () 3 : CellTallies nD τ sig Unit) := by
  refine launch_cell (c, .inl ()) 3 ?_
  rw [Finset.sum_congr rfl fun e _ => owed_all e (c, .inl ()) [0, 1, 2], Finset.sum_add_distrib, ← Finset.mul_sum,
    show (∑ e : Dev nD, allP.countP fun p => decide (((c, .inl ()) : Dev nD × CI) = (fwd p.1 e, .inr (.inr (e, p.2))))) = 0 by revert c; decide, Nat.mul_zero]
  revert c; decide

theorem launch_recv (c : Dev nD) (p : Fin 3 × Fin 4) : tallyOn (recvCell c (fwd p.1 c) p.2) (launchCredit (Pipeline.owing O₀) 0 (recvCell c (fwd p.1 c) p.2))
    = (tallyAt (recvCell c (fwd p.1 c) p.2) () N : CellTallies nD τ sig Unit) := by
  refine launch_cell (c, .inr (.inr (fwd p.1 c, p.2))) N ?_
  rw [Finset.sum_congr rfl fun e _ => owed_all e (c, .inr (.inr (fwd p.1 c, p.2))) [0, 1, 2], Finset.sum_add_distrib, ← Finset.mul_sum,
    show (∑ e : Dev nD, allP.countP fun q => decide (((c, .inr (.inr (fwd p.1 c, p.2))) : Dev nD × CI) = (fwd q.1 e, .inr (.inr (e, q.2))))) = 1 by revert c p; decide +kernel,
    show (∑ e : Dev nD, ([0, 1, 2] : List (Fin 3)).countP fun d => decide (((c, .inr (.inr (fwd p.1 c, p.2))) : Dev nD × CI) = (fwd d e, .inl ()))) = 0 by revert c p; decide +kernel,
    Nat.mul_one, Nat.zero_add]

def recvSems (c : Dev nD) : Finset (SemLoc sig) :=
  Finset.univ.map ⟨fun p : Fin 3 × Fin 4 => (SemLoc.dma (rS (fwd p.1 c) p.2) : SemLoc sig), fun p q h => by
    have := congrArg (fun sm : SemLoc sig => match sm with | .dma q => rIdx q | .reg _ => none) h
    have := Option.some.inj ((rIdx_rS _ _).symm.trans (this.trans (rIdx_rS _ _)))
    exact Prod.ext (fwd_inj (congrArg Prod.fst this)) (congrArg (Prod.snd : Dev nD × Fin 4 → Fin 4) this)⟩

/-- At launch a device may count on three signals and on every copy addressed to it. -/
theorem creds (c : Dev nD) : (Pipeline.launchCred O₀ c : sProp 𝕄)
    ⊢ iprop(cred (tallyAt (barCell c) () 3) ∗ bigSep Finset.univ fun p : Fin 3 × Fin 4 => cred (tallyAt (recvCell c (fwd p.1 c) p.2) () N)) := by
  have hsub : recvSems c ⊆ Finset.univ.erase (SemLoc.reg barS) := by
    intro sm h
    obtain ⟨p, -, rfl⟩ := Finset.mem_map.mp h
    exact Finset.mem_erase.mpr ⟨(nofun : SemLoc.dma _ ≠ SemLoc.reg _), Finset.mem_univ _⟩
  unfold Pipeline.launchCred
  rw [bigSep_univ_at _ (SemLoc.reg barS), launch_bar]
  refine sep_mono_right ?_
  refine BI.Entails.trans (BI.bigSep_subset hsub) ?_
  unfold recvSems
  rw [bigSep_map]
  exact bigSep_mono fun p _ => Entails.of_eq (congrArg cred (launch_recv c p))

/-! ## The side conditions of the launch -/

theorem share_eq (c : Dev nD) (w : Fin cfg0.W) : (dats m ρ 0 c).share w = fullShare := by unfold Dat.share; split <;> rfl

/-- What goes round the kernel: an argument it does not read. -/
def passed (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((∃ K, start m K c) ∗ passed m c) := by
  rw [Pipeline.unscopedRestP_none, show cfg0.spec = spec0 from rfl, unscopedRest0_eq]
  unfold G'
  iintro ⟨Hz, Hlev, Hcr, -, ⟨%K, HG⟩, Hat⟩
  ihave Hc := (creds (F := F) c) $$ Hcr
  icases Hc with ⟨H1, HN⟩
  imodintro
  unfold start
  isplitr [Hz]
  · iexists K
    isplitl [HG]; · iexact HG
    isplitl [H1]; · iexact H1
    isplitl [HN Hat]
    · unfold recvRes
      rw [bigSep_sep']
      isplitl [HN]; · iexact HN
      iexact Hat
    iexact Hlev
  · unfold passed; iexact Hz

theorem phi0_intro (c : Dev nD) :
    iprop((∃ K, start m K c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show cfg0.spec = spec0 from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show cfg0.spec = spec0 from rfl, scopedRest0_eq]
  unfold Φ₁ scr sendZero recvZero
  iintro ⟨Hr, HzB, HzS, HzV, HzO⟩
  ihave Hz := (Entails.of_eq ((cells_split (F := F) c fun k => semVal (kcell (c, k)) 0).symm.trans (sems_eq c).symm)) $$ [HzB HzS HzV HzO]
  · isplitl [HzB]; · iexact HzB
    isplitl [HzS]; · iexact HzS
    isplitl [HzO]; · iexact HzO
    iexact HzV
  icases Hz with ⟨Hu, Ho⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What each window's array holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
/-- From any memory with every counter at zero, every fair execution of the program on the four devices ends; every window's
    array then holds what was computed for it, the argument that is not read is unchanged, and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := fun c => iprop(∃ K, start m K c)) (Y := fun c => unscopedSems0 c) (Z := passed m)
    (hX := start_intro m ρ) (hin := phi0_intro m ρ) (hout := phi1_exit m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      unfold passed
      iintro ⟨Hu, Hz, HSI⟩
      icombine HSI Hz gives %h
      imod (Pipeline.unscopedSems0_read (X := unscopedSems0 c) (c := c) fupd_intro s') $$ [Hu HSI] with ⟨%hs, HSI⟩
      · isplitl [Hu] <;> iassumption
      imodintro
      isplitr
      · ipureintro
        exact ⟨Buf.eq_of_forall_mem_univ h, hs⟩
      · iexact HSI)
    (hQ := fun _ h hs => ⟨fun c => ⟨(h c).1, (h c).2.2.1⟩, sem_eq_zero hs fun c => (h c).2.2.2⟩)

/-- The three staged arguments hold after the run what they held. -/
theorem finalA_in (c : Dev nD) (w : Fin 4) (hw : (cfg0.win w).isOut = false) : finalA m ρ c w = m ((cfg0.win w).arr.view.loc (c : Thread nD τ)) :=
  (dats (F := F) m ρ 0 c).arrAt_in w hw _

/-- The run with the contents dropped: it ends, the arguments are unchanged and every counter is zero. -/
theorem frame : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c => ⟨((h.1 c).1 (0 : Fin 4)).trans (finalA_in m ρ c 0 rfl), (h.1 c).2,
    ((h.1 c).1 (1 : Fin 4)).trans (finalA_in m ρ c 1 rfl), ((h.1 c).1 (2 : Fin 4)).trans (finalA_in m ρ c 2 rfl)⟩, h.2⟩) (run_main m ρ)

end Cert.KernelIdealProof

end
-- ==== Proof.Tokens.lean ====
/-
  Tokens, experts and places, as plain counting: how many earlier tokens went to a token's expert, and why a token's
  place among the rows of its expert is its own.
-/
module

public import Idealize.ShloMosaic.Lib.Pointwise
public import Idealize.ShloMosaic.Lib.Routing.BitFacts

@[expose] public section

noncomputable section

namespace Cert.Experts

open Idealize.ShloMosaic

/-- Every token's expert is one of the sixteen. -/
def Valid (r : Fin 1024 → BitVec 32) : Prop := ∀ i, (r i).toNat < 16

variable (r : Fin 1024 → BitVec 32)

/-- How many earlier tokens went to the expert of token `i`. -/
def earlier (i : Fin 1024) : ℕ := (Finset.univ.filter fun j => r j = r i ∧ j < i).card

/-- Token `i` is within its expert's capacity. -/
def Kept (i : Fin 1024) : Prop := earlier r i < 51
instance (i : Fin 1024) : Decidable (Kept r i) := inferInstanceAs (Decidable (_ < _))

/-- The row of token `i` among all experts' rows, sixty-four for each. -/
def place (i : Fin 1024) : ℕ := 64 * (r i).toNat + earlier r i

/-- Fewer than all the tokens are earlier. -/
theorem earlier_lt (i : Fin 1024) : earlier r i < 1024 := by
  refine (Finset.card_lt_univ_of_notMem (x := i) fun h => lt_irrefl i (Finset.mem_filter.mp h).2.2).trans_eq ?_
  exact Fintype.card_fin _

/-- A later token of the same expert has more tokens before it. -/
theorem earlier_mono {i j : Fin 1024} (h : r i = r j) (hij : i < j) : earlier r i < earlier r j := by
  refine Finset.card_lt_card (Finset.ssubset_iff_of_subset (fun k hk => ?_) |>.mpr ⟨i, ?_, ?_⟩)
  · have := (Finset.mem_filter.mp hk).2
    exact Finset.mem_filter.mpr ⟨Finset.mem_univ _, this.1.trans h, this.2.trans hij⟩
  · exact Finset.mem_filter.mpr ⟨Finset.mem_univ _, h, hij⟩
  · exact fun hk => lt_irrefl i (Finset.mem_filter.mp hk).2.2

/-- Two tokens of one expert with the same number of tokens before them are one token. -/
theorem earlier_inj {i j : Fin 1024} (h : r i = r j) (he : earlier r i = earlier r j) : i = j := by
  rcases lt_trichotomy i j with hl | hl | hl
  · exact absurd he (earlier_mono r h hl).ne
  · exact hl
  · exact absurd he (earlier_mono r h.symm hl).ne'

/-- Two kept tokens with the same row are one token. -/
theorem place_inj {i j : Fin 1024} (hi : Kept r i) (hj : Kept r j) (h : place r i = place r j) : i = j := by
  unfold Kept at hi hj
  unfold place at h
  exact earlier_inj r (BitVec.eq_of_toNat_eq (by omega)) (by omega)

/-- A kept token's row is below its expert's first fifty-one. -/
theorem place_mod {i : Fin 1024} (hi : Kept r i) : place r i % 64 < 51 := by
  unfold Kept at hi; unfold place; omega

/-- A kept token's row names its expert. -/
theorem place_div {i : Fin 1024} (hi : Kept r i) : place r i / 64 = (r i).toNat := by
  unfold Kept at hi; unfold place; omega

/-! ## Comparisons read as numbers -/

/-- A comparison for equality is one when its sides are equal. -/
theorem cmpi_eq_iff {w : ℕ} (a b : BitVec w) : IntOp.cmpi .eq a b = 1#1 ↔ a = b := by
  show BitVec.ofBool (a == b) = 1#1 ↔ _
  by_cases h : a = b
  · simp [h]
  · rw [beq_eq_false_iff_ne.mpr h]; simp [h]

/-- Two bits' conjunction is one when both are. -/
theorem andi_iff (a b : BitVec 1) : IntOp.andi a b = 1#1 ↔ a = 1#1 ∧ b = 1#1 := by
  revert a b; decide

/-- A word below sixteen is an expert's number exactly when it is that expert. -/
theorem word_eq_iff {w : BitVec 32} (hw : w.toNat < 16) (e : Fin 16) : w = BitVec.ofNat 32 e.val ↔ (⟨w.toNat, hw⟩ : Fin 16) = e := by
  have he := e.isLt
  constructor
  · intro h; apply Fin.ext; show w.toNat = _; rw [h, BitVec.toNat_ofNat]; omega
  · intro h; apply BitVec.eq_of_toNat_eq; rw [BitVec.toNat_ofNat, ← h]; show _ = w.toNat % _; omega

/-- The order of two small numbers, read off their words. -/
theorem cmpi_slt_ofNat {a b : ℕ} (ha : a < 2 ^ 31) (hb : b < 2 ^ 31) : IntOp.cmpi .slt (BitVec.ofNat 32 a) (BitVec.ofNat 32 b) = 1#1 ↔ a < b := by
  show BitVec.ofBool ((BitVec.ofNat 32 a).slt (BitVec.ofNat 32 b)) = 1#1 ↔ _
  rw [Routing.slt_ofNat32 ha hb]
  by_cases h : a < b <;> simp [h]

/-- The same of the order read the other way round. -/
theorem cmpi_sgt_ofNat {a b : ℕ} (ha : a < 2 ^ 31) (hb : b < 2 ^ 31) : IntOp.cmpi .sgt (BitVec.ofNat 32 a) (BitVec.ofNat 32 b) = 1#1 ↔ b < a :=
  cmpi_slt_ofNat hb ha

/-- A comparison's bit, widened and turned into a number, is one or zero. -/
theorem bit_value {φ : FTy} (b : BitVec 1) : (FloatOps.sitofp φ (BitVec.setWidth 32 b) : Ideal φ) = if b = 1#1 then (1 : EReal) else 0 := by
  rcases BitVec.eq_zero_or_eq_one b with rfl | rfl
  · show (((BitVec.setWidth 32 0#1).toInt : ℝ) : EReal) = _
    simp
  · show (((BitVec.setWidth 32 1#1).toInt : ℝ) : EReal) = _
    have : (BitVec.setWidth 32 1#1).toInt = 1 := by decide
    simp [this]

/-- A sum of ones over the tokens with a property is their number. -/
theorem sum_indicator {ι : Type*} [Fintype ι] (p : ι → Prop) [DecidablePred p] :
    (∑ j, if p j then (1 : EReal) else 0) = ((Finset.univ.filter p).card : ℝ) := by
  rw [← Finset.sum_filter, Finset.sum_const, nsmul_one]
  norm_cast

/-- A small number's nearest whole number toward zero is itself. -/
theorem fptosi_count {n : ℕ} (h : n < 2 ^ 31) : FloatOps.fptosi (F := Ideal) (φ := .f32) 32 (((n : ℝ) : EReal)) = BitVec.ofNat 32 n := by
  show Ideal.fptosi 32 ((n : ℝ) : EReal) = _
  have e : Ideal.toIntClamped (-(2 ^ (32 - 1) : ℕ)) ((2 ^ (32 - 1) : ℕ) - 1) ((n : ℝ) : EReal) = (n : ℤ) := by
    show max _ (min _ (if 0 ≤ (n : ℝ) then ⌊(n : ℝ)⌋ else _)) = _
    rw [if_pos (Nat.cast_nonneg n), Int.floor_natCast]
    omega
  rw [Ideal.fptosi, e, BitVec.ofInt_natCast]

/-- A sum weighted by an indicator that is one at a single index is the summand there. -/
theorem sum_pick {ι : Type*} [Fintype ι] (p : ι → Prop) [DecidablePred p] (f : ι → EReal) {a : ι} (ha : p a) (hu : ∀ b, p b → b = a) :
    (∑ b, (if p b then (1 : EReal) else 0) * f b) = f a := by
  rw [Finset.sum_eq_single a (fun b _ hb => by rw [if_neg fun h => hb (hu b h), zero_mul]) (fun h => absurd (Finset.mem_univ a) h), if_pos ha, one_mul]

/-- A sum weighted by an indicator that is nowhere one is zero. -/
theorem sum_pick_none {ι : Type*} [Fintype ι] (p : ι → Prop) [DecidablePred p] (f : ι → EReal) (h : ∀ b, ¬ p b) :
    (∑ b, (if p b then (1 : EReal) else 0) * f b) = 0 :=
  Finset.sum_eq_zero fun b _ => by rw [if_neg (h b), zero_mul]

/-- The row a token has in the result: its own row times the weights of its expert, all experts in one array. -/
def rowValue (X : Vec Ideal ⟨2, ![1024, 512]⟩ .bf16) (W : Vec Ideal ⟨3, ![16, 512, 1024]⟩ .bf16) (i : Fin 1024) (e : Fin 16) (h : Fin 1024) : EReal :=
  ∑ d : Fin 512, X (ix2 i d) * W (ix3 e d h)

end Cert.Experts

end
-- ==== Proof.Slots.lean ====
/-
  What the kernel computes of the routing: each token's slot, and the matrices of zeros and ones that gather the
  tokens of one device's experts and scatter their results.
-/
module

public import proofs.«01_k».proof.Proof.KernelIdeal.Data
public import proofs.«01_k».proof.Proof.Tokens

@[expose] public section

noncomputable section

namespace Cert.KernelIdealProof

open Cert.KernelIdeal Cert.KernelIdeal.Gen Cert.Experts
open Idealize.ShloMosaic

/-- The expert numbers held in an array of one column. -/
abbrev routes (v : Vec Ideal S1024x1 .i32) : Fin 1024 → BitVec 32 := fun i => v (ix2 i 0)

section Slot
variable (v : Vec Ideal S1024x1 .i32) (hv : Valid (routes v))
include hv

/-- The number the kernel counts for a token is the number of earlier tokens of its expert. -/
theorem count_value (i : Fin 1024) :
    (∑ e : Fin 16, (∑ j : Fin 1024,
        (FloatOps.sitofp (F := Ideal) .f32 (BitVec.setWidth 32 (IntOp.cmpi .sgt (BitVec.ofNat 32 i.val) (BitVec.ofNat 32 j.val))) : EReal) *
          (FloatOps.sitofp (F := Ideal) .f32 (BitVec.setWidth 32 (IntOp.cmpi .eq (v (ix2 j 0)) (BitVec.ofNat 32 e.val))) : EReal)) *
        (FloatOps.sitofp (F := Ideal) .f32 (BitVec.setWidth 32 (IntOp.cmpi .eq (v (ix2 i 0)) (BitVec.ofNat 32 e.val))) : EReal))
      = ((earlier (routes v) i : ℝ) : EReal) := by
  simp only [bit_value]
  have hj (j : Fin 1024) : IntOp.cmpi .sgt (BitVec.ofNat 32 i.val) (BitVec.ofNat 32 j.val) = 1#1 ↔ j < i :=
    cmpi_sgt_ofNat (by have := i.isLt; omega) (by have := j.isLt; omega)
  have he (j : Fin 1024) (e : Fin 16) : IntOp.cmpi .eq (v (ix2 j 0)) (BitVec.ofNat 32 e.val) = 1#1 ↔ (⟨(routes v j).toNat, hv j⟩ : Fin 16) = e :=
    (cmpi_eq_iff _ _).trans (word_eq_iff (hv j) e)
  simp only [hj, he, mul_comm (_ : EReal) (if (⟨(routes v i).toNat, hv i⟩ : Fin 16) = _ then (1 : EReal) else 0)]
  rw [sum_pick (fun e => (⟨(routes v i).toNat, hv i⟩ : Fin 16) = e) _ rfl (fun b h => h.symm)]
  rw [earlier, ← sum_indicator]
  refine Finset.sum_congr rfl fun j _ => ?_
  have hc : (⟨(routes v j).toNat, hv j⟩ : Fin 16) = ⟨(routes v i).toNat, hv i⟩ ↔ routes v j = routes v i := by
    rw [Fin.mk.injEq]; exact ⟨BitVec.eq_of_toNat_eq, congrArg _⟩
  by_cases h : j < i
  · rw [if_pos h, one_mul]; exact if_congr (hc.trans (and_iff_left h).symm) rfl rfl
  · rw [if_neg h, zero_mul, if_neg fun hn => h hn.2]

/-- A token's slot is its row among all experts' rows if its expert has room for it, else minus one. -/
theorem slot_value (i : Fin 1024) :
    k0_pay1 (F := Ideal) v (ix2 i 0) = if Kept (routes v) i then BitVec.ofNat 32 (place (routes v) i) else 4294967295#32 := by
  have hl := earlier_lt (routes v) i
  pointwise [k0_pay1]
  rw [count_value v hv i, fptosi_count (by omega)]
  have hs : IntOp.cmpi .slt (BitVec.ofNat 32 (earlier (routes v) i)) 51#32 = 1#1 ↔ Kept (routes v) i :=
    cmpi_slt_ofNat (b := 51) (by omega) (by decide)
  by_cases hk : Kept (routes v) i
  · rw [hs.mpr hk, if_pos hk, ValueIdx.select_one]
    show 64#32 * routes v i + BitVec.ofNat 32 _ = _
    unfold place
    rw [BitVec.ofNat_add, BitVec.ofNat_mul, BitVec.ofNat_toNat, BitVec.setWidth_eq]
  · rw [ValueIdx.eq_zero_of_ne_one fun h => hk (hs.mp h), if_neg hk, ValueIdx.select_zero]

/-- A column of device `k`'s matrix, compared with a token's slot: it is the token's when the token is kept and its
    row, among all experts' rows, is that column of the device. -/
theorem col_iff (i : Fin 1024) (q : Fin 256) (k : Dev nD) :
    IntOp.cmpi .eq (IntOp.addi (BitVec.ofNat 32 q.val) (BitVec.ofNat 32 (256 * k.val))) (k0_pay1 (F := Ideal) v (ix2 i 0)) = 1#1
      ↔ Kept (routes v) i ∧ q.val + 256 * k.val = place (routes v) i := by
  rw [cmpi_eq_iff, slot_value v hv]
  have hq := q.isLt
  have hk : k.val < 4 := k.isLt
  show BitVec.ofNat 32 q.val + BitVec.ofNat 32 (256 * k.val) = _ ↔ _
  rw [← BitVec.ofNat_add]
  by_cases hi : Kept (routes v) i
  · have hp : place (routes v) i < 2 ^ 32 := by
      have := hv i; unfold Kept at hi; unfold place; omega
    rw [if_pos hi, and_iff_right hi]
    refine ⟨fun h => ?_, fun h => by rw [h]⟩
    have := congrArg BitVec.toNat h
    rw [BitVec.toNat_ofNat, BitVec.toNat_ofNat] at this
    omega
  · rw [if_neg hi]
    refine iff_of_false (fun h => ?_) fun h => hi h.1
    have := congrArg BitVec.toNat h
    rw [BitVec.toNat_ofNat, show (4294967295#32).toNat = 4294967295 from rfl] at this
    omega

end Slot

/-! ## The four matrices -/

/-- The matrix of device `k`: one where the kept token of a row is at that column of the device, else zero. -/
def pick (r : Fin 1024 → BitVec 32) (k : Dev nD) (i : Fin 1024) (q : Fin 256) : EReal :=
  if Kept r i ∧ q.val + 256 * k.val = place r i then 1 else 0

/-- A token's comparison with a column, turned into a number, is the matrix's element. -/
theorem pick_eq (v : Vec Ideal S1024x1 .i32) (hv : Valid (routes v)) (k : Dev nD) (i : Fin 1024) (q : Fin 256) (w : BitVec 32)
    (hw : w = BitVec.ofNat 32 (256 * k.val)) :
    (FloatOps.sitofp .f32 (BitVec.setWidth 32 (IntOp.cmpi .eq (IntOp.addi (BitVec.ofNat 32 q.val) w) (k0_pay1 (F := Ideal) v (ix2 i 0)))) : Ideal .f32)
      = pick (routes v) k i q := by
  subst hw
  rw [bit_value]
  exact if_congr (col_iff v hv i q k) rfl rfl

variable (m : (ℓ : Loc nD τ sig) → Buf (Elt Ideal) ℓ)

/-- The device's own matrix. -/
theorem selM_value (c : Dev nD) (hv : Valid (routes (rstg m c))) (i : Fin 1024) (q : Fin 256) :
    selM m c (ix2 i q) = pick (routes (rstg m c)) c i q := by
  show k0_pay2 (F := Ideal) c (rstg m c) (ix2 i q) = _
  pointwise [k0_pay2]
  exact pick_eq _ hv c i q _ (by clear hv; revert c; decide)

/-- The matrix of the device one place on. -/
theorem sel1_value (c : Dev nD) (hv : Valid (routes (rstg m c))) (i : Fin 1024) (q : Fin 256) :
    sel1 m c (ix2 i q) = pick (routes (rstg m c)) (fwd 0 c) i q := by
  pointwise [sel1, k0_pay10]
  exact pick_eq _ hv (fwd 0 c) i q _ (by clear hv; revert c; decide)

/-- The matrix of the device three places on. -/
theorem sel3_value (c : Dev nD) (hv : Valid (routes (rstg m c))) (i : Fin 1024) (q : Fin 256) :
    sel3 m c (ix2 i q) = pick (routes (rstg m c)) (fwd 2 c) i q := by
  pointwise [sel3, k0_pay12]
  exact pick_eq _ hv (fwd 2 c) i q _ (by clear hv; revert c; decide)

/-- The matrix of the device two places on. -/
theorem sel2_value (c : Dev nD) (hv : Valid (routes (rstg m c))) (i : Fin 1024) (q : Fin 256) :
    sel2 m c (ix2 i q) = pick (routes (rstg m c)) (fwd 1 c) i q := by
  pointwise [sel2, k0_pay15, k0_pay14]
  exact pick_eq _ hv (fwd 1 c) i q _ (by clear hv; revert c; decide)

end Cert.KernelIdealProof

end
-- ==== Proof.Rows.lean ====
/-
  What the kernel leaves in each device's result, in exact numbers: each kept token's row times its expert's weights,
  and zero for the others.
-/
module

public import proofs.«01_k».proof.Proof.Slots

@[expose] public section

noncomputable section

namespace Cert.KernelIdealProof

open Cert.KernelIdeal Cert.KernelIdeal.Gen Cert.Experts
open Idealize.ShloMosaic

variable (m : (ℓ : Loc nD τ sig) → Buf (Elt Ideal) ℓ)

/-! ## What a device sends -/

/-- A gathered row is the sum of the tokens, weighted by the column of the device's matrix. -/
theorem gath_value (k : Dev nD) (hv : Valid (routes (rstg m k))) (q : Fin 256) (d : Fin 512) :
    gath m k (ix2 q d) = (∑ i : Fin 1024, pick (routes (rstg m k)) k i q * xstg m k (ix2 i d) : EReal) := by
  show k0_pay4 (F := Ideal) (selM m k) (xstg m k) (ix2 q d) = _
  pointwise [k0_pay4]
  exact Finset.sum_congr rfl fun i _ => congrArg (· * _) (selM_value m k hv i q)

/-- The gathered row of a kept token is the token's own. -/
theorem gath_kept (k : Dev nD) (hv : Valid (routes (rstg m k))) {i : Fin 1024} (hi : Kept (routes (rstg m k)) i) {q : Fin 256}
    (hq : q.val + 256 * k.val = place (routes (rstg m k)) i) (d : Fin 512) : gath m k (ix2 q d) = xstg m k (ix2 i d) := by
  rw [gath_value m k hv]
  exact sum_pick (fun i => Kept (routes (rstg m k)) i ∧ q.val + 256 * k.val = place (routes (rstg m k)) i) _ ⟨hi, hq⟩
    fun b hb => place_inj _ hb.1 hi (hb.2.symm.trans hq)

/-- What a device stores for one expert is that expert's gathered rows times its weights. -/
theorem blk_value (k : Dev nD) (j : Fin 4) (s : Fin 64) (h : Fin 1024) (q : Fin 256) (hq : q.val = 64 * j.val + s.val) :
    blk m k j (ix2 s h) = (∑ d : Fin 512, gath m k (ix2 q d) * wj m k j (ix3 0 d h) : EReal) := by
  match j with
  | 0 => pointwise [blk, k0_pay5]; simp only [show (⟨s.val, by have := s.isLt; omega⟩ : Fin 256) = q from Fin.ext (by rw [hq]; simp)]
  | 1 => pointwise [blk, k0_pay6]; simp only [show (⟨64 + s.val, by have := s.isLt; omega⟩ : Fin 256) = q from Fin.ext (by rw [hq]; simp)]
  | 2 => pointwise [blk, k0_pay7]; simp only [show (⟨128 + s.val, by have := s.isLt; omega⟩ : Fin 256) = q from Fin.ext (by rw [hq]; simp)]
  | 3 => pointwise [blk, k0_pay8]; simp only [show (⟨192 + s.val, by have := s.isLt; omega⟩ : Fin 256) = q from Fin.ext (by rw [hq]; simp)]

/-- A row of the send buffer is the gathered row times the weights of the row's expert. -/
theorem sendF_value (k : Dev nD) (q : Fin 256) (h : Fin 1024) :
    sendF m k (ix2 q h) = (∑ d : Fin 512, gath m k (ix2 q d) * wj m k ⟨q.val / 64, by have := q.isLt; omega⟩ (ix3 0 d h) : EReal) :=
  blk_value m k _ ⟨q.val % 64, by omega⟩ h q (by show q.val = 64 * (q.val / 64) + q.val % 64; omega)

/-! ## What a device reads of what another sent -/

/-- What is read of a slot is the receive buffer there. -/
theorem slotV_value (c k : Dev nD) (q : Fin 256) (h : Fin 1024) : slotV m c k (ix3 0 q h) = commF m c (ix3 k q h) := by
  unfold slotV
  exact congrArg (commF m c) (funext fun a => by
    match a with
    | ⟨0, _⟩ => exact Fin.ext (by show k.val + 1 * 0 = k.val; omega)
    | ⟨1, _⟩ => exact Fin.ext (by show 0 + 1 * q.val = q.val; omega)
    | ⟨2, _⟩ => exact Fin.ext (by show 0 + 1 * h.val = h.val; omega))

/-- Of a copied row it is what the other device sent. -/
theorem slotV_copied (c k : Dev nD) (hk : k ≠ c) (q : Fin 256) (hq : q.val % 64 < 56) (h : Fin 1024) :
    slotV m c k (ix3 0 q h) = sendF m k (ix2 q h) := by
  rw [slotV_value]
  exact if_pos ⟨hk, hq⟩

/-! ## The result -/

/-- A matrix times rows, read where a kept token's row is in the device's part: the row of that token. -/
theorem scatter_hit (r : Fin 1024 → BitVec 32) (k : Dev nD) (f : Fin 256 → EReal) {i : Fin 1024} (hi : Kept r i) {q : Fin 256}
    (hq : q.val + 256 * k.val = place r i) : (∑ b, pick r k i b * f b) = f q :=
  sum_pick (fun b : Fin 256 => Kept r i ∧ b.val + 256 * k.val = place r i) f ⟨hi, hq⟩ fun b hb => Fin.ext (by have := hb.2; omega)

/-- Elsewhere it is zero. -/
theorem scatter_miss (r : Fin 1024 → BitVec 32) (k : Dev nD) (f : Fin 256 → EReal) {i : Fin 1024}
    (h : Kept r i → place r i / 256 ≠ k.val) : (∑ b, pick r k i b * f b) = 0 :=
  sum_pick_none (fun b : Fin 256 => Kept r i ∧ b.val + 256 * k.val = place r i) f fun b hb => h hb.1 (by have := b.isLt; omega)

/-- The part of the result that the experts of one device contribute: `f` is what is read of that device's rows, and
    its kept rows are the tokens' rows `y`. -/
theorem scatter_part (r : Fin 1024 → BitVec 32) (k : Dev nD) (f : Fin 256 → EReal) (i : Fin 1024) (y : EReal)
    (hf : ∀ q : Fin 256, Kept r i → q.val + 256 * k.val = place r i → f q = y) :
    (∑ b, pick r k i b * f b) = if Kept r i ∧ place r i / 256 = k.val then y else 0 := by
  by_cases h : Kept r i ∧ place r i / 256 = k.val
  · have hq : place r i % 256 + 256 * k.val = place r i := by have := h.2; omega
    rw [if_pos h, scatter_hit r k f h.1 (q := ⟨place r i % 256, by omega⟩) hq]
    exact hf _ h.1 hq
  · rw [if_neg h]
    exact scatter_miss r k f fun hk he => h ⟨hk, he⟩

section Result
variable {X : Vec Ideal S1024x512 .bf16} {R : Vec Ideal S1024x1 .i32} {W : Vec Ideal ⟨3, ![16, 512, 1024]⟩ .bf16}
variable (hx : ∀ k, xstg m k = X) (hr : ∀ k, rstg m k = R)
variable (hw : ∀ (k : Dev nD) (j : Fin 4) (d : Fin 512) (h : Fin 1024) (e : Fin 16), e.val = 4 * k.val + j.val → wj m k j (ix3 0 d h) = W (ix3 e d h))
variable (hv : Valid (routes R))
include hx hr hw hv

/-- What a device sends in a kept token's row is that token's row of the result. -/
theorem sendF_kept (k : Dev nD) (i : Fin 1024) (h : Fin 1024) (q : Fin 256) (hi : Kept (routes R) i)
    (hq : q.val + 256 * k.val = place (routes R) i) : sendF m k (ix2 q h) = rowValue X W i ⟨(routes R i).toNat, hv i⟩ h := by
  rw [sendF_value]
  have hd := place_div (routes R) hi
  refine Finset.sum_congr rfl fun d _ => ?_
  have hg : gath m k (ix2 q d) = X (ix2 i d) := by
    rw [← hx k]; exact gath_kept m k (by rw [hr k]; exact hv) (by rw [hr k]; exact hi) (by rw [hr k]; exact hq) d
  rw [hg, hw k _ d h ⟨(routes R i).toNat, hv i⟩ (by show (routes R i).toNat = 4 * k.val + q.val / 64; omega)]

/-- One device's part of another's result. -/
theorem part_value (c k : Dev nD) (hk : k ≠ c) (i h : Fin 1024) :
    (∑ q : Fin 256, pick (routes R) k i q * slotV m c k (ix3 0 q h) : EReal)
      = if Kept (routes R) i ∧ place (routes R) i / 256 = k.val then rowValue X W i ⟨(routes R i).toNat, hv i⟩ h else 0 :=
  scatter_part _ k _ i _ fun q hi hq => by
    have hm := place_mod (routes R) hi
    rw [slotV_copied m c k hk q (by omega)]
    exact sendF_kept m hx hr hw hv k i h q hi hq

/-- The result of every device: a kept token's row times its expert's weights, zero for the others. -/
theorem outF_value (c : Dev nD) (i h : Fin 1024) :
    outF m c (ix2 i h) = if Kept (routes R) i then rowValue X W i ⟨(routes R i).toNat, hv i⟩ h else 0 := by
  have hv' : Valid (routes (rstg m c)) := by rw [hr c]; exact hv
  have e0 : out0 m c (ix2 i h) = if Kept (routes R) i ∧ place (routes R) i / 256 = c.val then rowValue X W i ⟨(routes R i).toNat, hv i⟩ h else 0 := by
    pointwise [out0, k0_pay9]
    simp only [selM_value m c hv', hr c]
    exact scatter_part _ c _ i _ fun q hi hq => sendF_kept m hx hr hw hv c i h q hi hq
  have n (d : Fin 3) : fwd d c ≠ c := by clear hv' e0; revert c d; decide
  have e1 := part_value m hx hr hw hv c (fwd 0 c) (n 0) i h
  have e2 := part_value m hx hr hw hv c (fwd 2 c) (n 2) i h
  have e3 := part_value m hx hr hw hv c (fwd 1 c) (n 1) i h
  have s : outF m c (ix2 i h) = (out0 m c (ix2 i h) + ∑ q : Fin 256, pick (routes R) (fwd 0 c) i q * slotV m c (fwd 0 c) (ix3 0 q h)
      + ∑ q : Fin 256, pick (routes R) (fwd 2 c) i q * slotV m c (fwd 2 c) (ix3 0 q h)
      + ∑ q : Fin 256, pick (routes R) (fwd 1 c) i q * slotV m c (fwd 1 c) (ix3 0 q h) : EReal) := by
    pointwise [outF, out2, out1, k0_pay16, k0_pay13, k0_pay11]
    simp only [sel1_value m c hv', sel2_value m c hv', sel3_value m c hv', hr c]
  rw [s, e0, e1, e2, e3]
  by_cases hk : Kept (routes R) i
  · rw [if_pos hk]
    have hp : place (routes R) i / 256 < 4 := by have := hv i; unfold Kept at hk; unfold place; omega
    generalize rowValue X W i _ h = y
    obtain ⟨p, hpe⟩ : ∃ p : Fin 4, p.val = place (routes R) i / 256 := ⟨⟨_, hp⟩, rfl⟩
    simp only [hk, true_and, ← hpe]
    have hall : ∀ (c : Dev nD) (p : Fin 4), (p.val = c.val ∧ p.val ≠ (fwd 0 c).val ∧ p.val ≠ (fwd 2 c).val ∧ p.val ≠ (fwd 1 c).val)
        ∨ (p.val ≠ c.val ∧ p.val = (fwd 0 c).val ∧ p.val ≠ (fwd 2 c).val ∧ p.val ≠ (fwd 1 c).val)
        ∨ (p.val ≠ c.val ∧ p.val ≠ (fwd 0 c).val ∧ p.val = (fwd 2 c).val ∧ p.val ≠ (fwd 1 c).val)
        ∨ (p.val ≠ c.val ∧ p.val ≠ (fwd 0 c).val ∧ p.val ≠ (fwd 2 c).val ∧ p.val = (fwd 1 c).val) := by decide
    rcases hall c p with ⟨a, b, d, e⟩ | ⟨a, b, d, e⟩ | ⟨a, b, d, e⟩ | ⟨a, b, d, e⟩
    · rw [if_pos a, if_neg b, if_neg d, if_neg e, add_zero, add_zero, add_zero]
    · rw [if_neg a, if_pos b, if_neg d, if_neg e, zero_add, add_zero, add_zero]
    · rw [if_neg a, if_neg b, if_pos d, if_neg e, zero_add, zero_add, add_zero]
    · rw [if_neg a, if_neg b, if_neg d, if_pos e, zero_add, zero_add, zero_add]
  · simp only [hk, false_and, if_false, add_zero]

end Result

end Cert.KernelIdealProof

end
-- ==== Proof.RefValue.lean ====
/-
  What the reference computes, in exact numbers: each kept token's row times its expert's weights, and zero for the
  others.
-/
module

public import proofs.«01_k».proof.Proof.Gen.ReferenceIdeal.Run
public import proofs.«01_k».proof.Proof.Tokens
public import Idealize.ShloMosaic.Lib.IndicatorCount

@[expose] public section

noncomputable section

namespace Cert.ReferenceIdealProof

open Cert.ReferenceIdeal Cert.ReferenceIdeal.Gen Cert.Experts
open Idealize.ShloMosaic

/-- The reference's result of its three arrays that matter. -/
def refOut (X : Vec Ideal S1024x512 .bf16) (R : Vec Ideal S1024x1 .i32) (W : Vec Ideal S16x512x1024 .bf16) : FVec Ideal S1024x1024 .f32 :=
  Host.reduceAdd (select (broadcastInDim S1024x16x1024 ![0, 1, 2] bcast_S1024x16x1_S1024x16x1024_0_1_2 (broadcastInDim S1024x16x1 ![0, 1] bcast_S1024x16_S1024x16x1_0_1 (andi (cmpi .eq (broadcastInDim S1024x16 ![0, 1] bcast_S1024x1_S1024x16_0_1 R) (broadcastInDim S1024x16 ![0, 1] bcast_S1x16_S1024x16_0_1 (broadcastInDim S1x16 ![1] bcast_S16_S1x16_1 (iotaInDim S16 32 0)))) (broadcastInDim S1024x16 ![0, 1] bcast_S1024x1_S1024x16_0_1 (cmpi .slt (broadcastInDim S1024x1 ![0] bcast_S1024_S1024x1_0 (Host.reduce IntOp.addi (extui 32 (andi (cmpi .eq (broadcastInDim S1024x1024 ![0, 1] bcast_S1024x1_S1024x1024_0_1 R) (broadcastInDim S1024x1024 ![0, 1] bcast_S1x1024_S1024x1024_0_1 (transpose S1x1024 [1, 0] R transposes_S1024x1_S1x1024_1_0))) (cmpi .slt (broadcastInDim S1024x1024 ![0, 1] bcast_S1x1024_S1024x1024_0_1 (broadcastInDim S1x1024 ![1] bcast_S1024_S1x1024_1 (iotaInDim S1024 32 0))) (broadcastInDim S1024x1024 ![0, 1] bcast_S1024x1_S1024x1024_0_1 (broadcastInDim S1024x1 ![0] bcast_S1024_S1024x1_0 (iotaInDim S1024 32 0))))) natLt_1_32) (constantI S_ 32 0#32) reducesTo_S1024x1024_S1024_d1 h_S_)) (broadcastInDim S1024x1 ![] bcast_S_S1024x1 (constantI S_ 32 51#32))))))) (Host.dotGeneral dot_S1024x512_S16x512x1024_S1024x16x1024_1_1_0_02_n_n none (extf .f32 X bitsLt_bf16_f32) (extf .f32 W bitsLt_bf16_f32)) (broadcastInDim S1024x16x1024 ![] bcast_S_S1024x16x1024 (id (constant S_ .f32 0x00000000#32)))) (constant S_ .f32 0x00000000#32) reducesTo_S1024x16x1024_S1024x1024_d1 h_S_

/-- The reference counts, for each token, the earlier tokens of its expert. -/
theorem count_value (R : Vec Ideal S1024x1 .i32) (i : Fin 1024) :
    (Finset.univ : Finset (Fin 1024)).fold IntOp.addi (0#32) (fun j => BitVec.setWidth 32
        (IntOp.andi (IntOp.cmpi .eq (R (ix2 i 0)) (R (ix2 j 0))) (IntOp.cmpi .slt (BitVec.ofNat 32 j.val) (BitVec.ofNat 32 i.val))))
      = BitVec.ofNat 32 (earlier (fun j => R (ix2 j 0)) i) := by
  rw [IndicatorCount.fold_addi_setWidth_eq_card (fun j : Fin 1024 =>
    IntOp.andi (IntOp.cmpi .eq (R (ix2 i 0)) (R (ix2 j 0))) (IntOp.cmpi .slt (BitVec.ofNat 32 j.val) (BitVec.ofNat 32 i.val)))]
  unfold earlier
  refine congrArg (fun S : Finset (Fin 1024) => BitVec.ofNat 32 S.card) (Finset.filter_congr fun j _ => ?_)
  rw [andi_iff, cmpi_eq_iff, cmpi_slt_ofNat (by have := j.isLt; omega) (by have := i.isLt; omega)]
  exact and_congr_left' eq_comm

/-- The reference's result: a kept token's row times its expert's weights, zero for the others. -/
theorem refOut_value (X : Vec Ideal S1024x512 .bf16) (R : Vec Ideal S1024x1 .i32) (W : Vec Ideal S16x512x1024 .bf16)
    (hv : Valid fun j => R (ix2 j 0)) (i h : Fin 1024) :
    refOut X R W (ix2 i h) = if Kept (fun j => R (ix2 j 0)) i then rowValue X W i ⟨(R (ix2 i 0)).toNat, hv i⟩ h else 0 := by
  have hl := earlier_lt (fun j => R (ix2 j 0)) i
  have hz : (id (constant (F := Ideal) S_ .f32 0#32) ix0 : EReal) = 0 := Ideal.ofBits_zero_f32
  have hs (e : Fin 16) (y : EReal) : Scalar.select (IntOp.andi (IntOp.cmpi .eq (R (ix2 i 0)) (BitVec.ofNat 32 e.val))
      (IntOp.cmpi .slt (BitVec.ofNat 32 (earlier (fun j => R (ix2 j 0)) i)) 51#32)) y 0
        = if e = ⟨(R (ix2 i 0)).toNat, hv i⟩ ∧ Kept (fun j => R (ix2 j 0)) i then y else 0 := by
    have : IntOp.andi (IntOp.cmpi .eq (R (ix2 i 0)) (BitVec.ofNat 32 e.val)) (IntOp.cmpi .slt (BitVec.ofNat 32 (earlier (fun j => R (ix2 j 0)) i)) 51#32) = 1#1
        ↔ e = ⟨(R (ix2 i 0)).toNat, hv i⟩ ∧ Kept (fun j => R (ix2 j 0)) i := by
      rw [andi_iff, cmpi_eq_iff, cmpi_slt_ofNat (b := 51) (by omega) (by decide), word_eq_iff (hv i)]
      exact and_congr_left' eq_comm
    exact if_congr this rfl rfl
  pointwise [refOut]
  rw [count_value, hz]
  simp only [hs]
  by_cases hk : Kept (fun j => R (ix2 j 0)) i
  · simp only [hk, and_true, if_true]
    rw [Finset.sum_ite_eq' Finset.univ, if_pos (Finset.mem_univ _)]
    rfl
  · simp only [hk, and_false, if_false, Finset.sum_const_zero]

end Cert.ReferenceIdealProof

end
-- ==== Proof.Value.lean ====
/-
  The value of the kernel: from the arrays the devices start with, what each holds at the end is the reference's result.
-/
module

public import proofs.«01_k».proof.Defs
public import proofs.«01_k».proof.Proof.KernelIdeal.Launch
public import proofs.«01_k».proof.Proof.Rows
public import proofs.«01_k».proof.Proof.RefValue
public import Idealize.ShloMosaic.Lib.LayoutAt
public import Idealize.ShloMosaic.Lib.ReduceAll
public import Idealize.ShloMosaic.Lib.Pipeline.Value

@[expose] public section

noncomputable section

/-! ## The precondition -/

namespace Cert.Proof

open Idealize.ShloMosaic Cert.Experts

/-- The precondition's side conditions. -/
instance pre_facts : Cert.Pre_expert_numbers_KernelIdeal.Facts := ⟨by decide, by decide, by decide⟩
/-- The same of the reference's. -/
instance pre_facts_reference : Cert.Pre_expert_numbers_ReferenceIdeal.Facts := ⟨by decide, by decide, by decide⟩

/-- The precondition says that every token's expert is one of the sixteen. -/
theorem valid_of_pre (a0 : FVec Ideal ⟨2, ![1024, 512]⟩ .bf16) (a1 : FVec Ideal ⟨2, ![512, 16]⟩ .bf16) (a2 : IVec ⟨2, ![1024, 1]⟩ 32)
    (a3 : FVec Ideal ⟨3, ![4, 512, 1024]⟩ .bf16)
    (h : Cert.Pre_expert_numbers_KernelIdeal.fn (F := Ideal) a0 a1 a2 a3 = fun _ => 1#1) : Valid fun i => a2 (ix2 i 0) := by
  intro i
  have h0 := congrFun h ix0
  unfold Cert.Pre_expert_numbers_KernelIdeal.fn at h0
  haveI : Subsingleton Cert.Pre_expert_numbers_KernelIdeal.S_.Idx := ⟨fun _ _ => funext fun a => a.elim0⟩
  have h1 : IntOp.andi (IntOp.cmpi .sge (a2 (ix2 i 0)) 0#32) (IntOp.cmpi .slt (a2 (ix2 i 0)) (BitVec.ofNat 32 16)) = 1#1 :=
    Host.reduce_andi_all _ _ _ _ _ h0 (ix2 i 0)
  rw [WordCmp.andi_sge_zero_slt_ofNat (by decide)] at h1
  by_contra hn
  rw [decide_eq_false hn] at h1
  exact absurd h1 (by decide)

end Cert.Proof

namespace Cert.KernelIdealProof

open Cert.KernelIdeal Cert.KernelIdeal.Gen Cert.Experts
open Idealize.ShloMosaic Idealize.ShloMosaic.TcCoe Idealize.SL.Sem

variable (m : (ℓ : Loc nD τ sig) → Buf (Elt Ideal) ℓ) (ρ : Dev nD → PrngReg)

/-- The staged tokens are the array's. -/
theorem xstg_eq (c : Dev nD) : xstg m c = m ((c : Thread nD τ).loc main_arg0) := by
  funext i
  exact congrArg (m ((c : Thread nD τ).loc main_arg0)) (funext fun a => by
    match a with
    | ⟨0, _⟩ => exact Fin.ext (by show 0 + 1 * (i 0).val = (i 0).val; omega)
    | ⟨1, _⟩ => exact Fin.ext (by show 0 + 1 * (i 1).val = (i 1).val; omega))

/-- The staged expert numbers are the array's. -/
theorem rstg_eq (c : Dev nD) : rstg m c = m ((c : Thread nD τ).loc main_arg2) := by
  funext i
  exact congrArg (m ((c : Thread nD τ).loc main_arg2)) (funext fun a => by
    match a with
    | ⟨0, _⟩ => exact Fin.ext (by show 0 + 1 * (i 0).val = (i 0).val; omega)
    | ⟨1, _⟩ => exact Fin.ext (by show 0 + 1 * (i 1).val = (i 1).val; omega))

/-- The staged weights are the array's. -/
theorem wstg_eq (c : Dev nD) : wstg m c = m ((c : Thread nD τ).loc main_arg3) := by
  funext i
  exact congrArg (m ((c : Thread nD τ).loc main_arg3)) (funext fun a => by
    match a with
    | ⟨0, _⟩ => exact Fin.ext (by show 0 + 1 * (i 0).val = (i 0).val; omega)
    | ⟨1, _⟩ => exact Fin.ext (by show 0 + 1 * (i 1).val = (i 1).val; omega)
    | ⟨2, _⟩ => exact Fin.ext (by show 0 + 1 * (i 2).val = (i 2).val; omega))

/-- The weights of the device's expert `j` are those of the array. -/
theorem wj_eq (c : Dev nD) (j : Fin 4) (d : Fin 512) (h : Fin 1024) : wj m c j (ix3 0 d h) = m ((c : Thread nD τ).loc main_arg3) (ix3 j d h) := by
  rw [← wstg_eq m c]
  exact congrArg (wstg m c) (funext fun a => by
    match a with
    | ⟨0, _⟩ => exact Fin.ext (by show j.val + 1 * 0 = j.val; omega)
    | ⟨1, _⟩ => exact Fin.ext (by show 0 + 1 * d.val = d.val; omega)
    | ⟨2, _⟩ => exact Fin.ext (by show 0 + 1 * h.val = h.val; omega))

/-- The result array ends holding what the body left for it. -/
theorem finalA_out (c : Dev nD) : finalA m ρ c (3 : Fin 4) = outF m c := by
  refine (dats m ρ 0 c).arrAt_eq_of_cover (3 : Fin 4) (outF m c) (fun t _ => ?_) (fun i => ⟨(0 : Fin 1), by decide, ?_⟩)
  · funext y
    refine Eq.trans ?_ (congrArg (outF m c) (funext fun a => ?_ : y = _))
    · rfl
    · match a with
      | ⟨0, _⟩ => exact Fin.ext (by show (y 0).val = 0 + 1 * (y 0).val; omega)
      | ⟨1, _⟩ => exact Fin.ext (by show (y 1).val = 0 + 1 * (y 1).val; omega)
  · have h : (win0_3.blk (0 : Fin 1)).view.emb i = i := funext fun a => by
      match a with
      | ⟨0, _⟩ => exact Fin.ext (by show 0 + 1 * (i 0).val = (i 0).val; omega)
      | ⟨1, _⟩ => exact Fin.ext (by show 0 + 1 * (i 1).val = (i 1).val; omega)
    have h' := (win0_3.blk (0 : Fin 1)).view.emb_mem_set i
    rw [h] at h'
    exact h'

end Cert.KernelIdealProof

end
-- ==== Proof.Frames.lean ====
module

public import proofs.«01_k».proof.Defs
public import proofs.«01_k».proof.Proof.Kernel.Launch
public import proofs.«01_k».proof.Proof.KernelIdeal.Launch
public import proofs.«01_k».proof.Proof.Gen.ReferenceIdeal.Run
public import proofs.«01_k».proof.Proof.Value
public import Idealize.ShloMosaic.Adequacy
public import Idealize.ShloMosaic.Init

/-! The frames of the three programs: each ends, leaves its arguments alone and brings every counter back to zero. -/

@[expose] public section

noncomputable section

namespace Cert.Proof

open Idealize.ShloMosaic Idealize.SL.Sem

/-- The printed kernel ends, its arguments are unchanged and its counters are zero. -/
theorem frame_kernel : Cert.quiescent_Kernel (hKernel := Cert.Kernel.Gen.facts) :=
  fun m ρ _ => Cert.KernelProof.frame (F := Bits) m ρ

/-- The same of the kernel read in exact numbers. -/
theorem frame_ideal : Cert.quiescent_KernelIdeal (hKernelIdeal := Cert.KernelIdeal.Gen.facts) :=
  fun m ρ _ => Cert.KernelIdealProof.frame (F := Ideal) m ρ

/-- The reference ends and its arguments are unchanged; it has no counter. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel in exact numbers, from arguments the precondition holds of. -/
theorem frame_ideal_pre : Cert.quiescent_KernelIdeal_pre_expert_numbers_KernelIdeal (hKernelIdeal := Cert.KernelIdeal.Gen.facts)
    (hPre_expert_numbers_KernelIdeal := pre_facts) :=
  fun m ρ _ => frame_ideal m ρ trivial

/-- The reference, from arguments the precondition holds of. -/
theorem frame_reference_pre : Cert.quiescent_ReferenceIdeal_pre_expert_numbers_ReferenceIdeal (hReferenceIdeal := Cert.ReferenceIdeal.Gen.facts)
    (hPre_expert_numbers_ReferenceIdeal := pre_facts_reference) :=
  fun m ρ _ => frame_reference m ρ trivial

end Cert.Proof

end
-- ==== Proof.Equation.lean ====
/-
  The equation: every device of the kernel ends holding the reference's result.
-/
module

public import proofs.«01_k».proof.Proof.Value

@[expose] public section

noncomputable section

namespace Cert.Proof

open Idealize.ShloMosaic Idealize.ShloMosaic.TcCoe Idealize.SL.Sem Cert.Experts

/-- The expert matrix a device holds as its `j`th is the whole array's number `4 * device + j`. -/
theorem weights_of_block (W : Vec Ideal ⟨3, ![16, 512, 1024]⟩ .bf16) (k : Fin 4) (j : Fin 4) (d : Fin 512) (h : Fin 1024) (e : Fin 16)
    (he : e.val = 4 * k.val + j.val) :
    (Layout.block ⟨3, ![4, 512, 1024]⟩ ⟨3, ![16, 512, 1024]⟩ 0 4 k W) (ix3 j d h) = W (ix3 e d h) := by
  rw [Layout.block_apply]
  refine congrArg W (funext fun a => Fin.ext ?_)
  match a with
  | ⟨0, _⟩ =>
    refine (Layout.Tiles.idx_val_self _ k (ix3 j d h) ⟨0, by decide⟩ rfl).trans ?_
    show k.val * 4 + j.val = e.val
    omega
  | ⟨1, _⟩ => exact Layout.Tiles.idx_val_of_ne _ k (ix3 j d h) ⟨1, by decide⟩ (by decide)
  | ⟨2, _⟩ => exact Layout.Tiles.idx_val_of_ne _ k (ix3 j d h) ⟨2, by decide⟩ (by decide)

/-- What a device writes is the reference's result, when the devices hold the same tokens and expert numbers and each its four of the
    sixteen matrices. -/
theorem outF_eq_refOut (m : (ℓ : Loc Cert.KernelIdeal.nD Cert.KernelIdeal.τ Cert.KernelIdeal.sig) → Buf (Elt Ideal) ℓ)
    (X : Vec Ideal ⟨2, ![1024, 512]⟩ .bf16) (R : Vec Ideal ⟨2, ![1024, 1]⟩ .i32) (W : Vec Ideal ⟨3, ![16, 512, 1024]⟩ .bf16)
    (hX : ∀ c : Dev Cert.KernelIdeal.nD, m ((c : Thread Cert.KernelIdeal.nD Cert.KernelIdeal.τ).loc Cert.KernelIdeal.main_arg0) = X)
    (hR : ∀ c : Dev Cert.KernelIdeal.nD, m ((c : Thread Cert.KernelIdeal.nD Cert.KernelIdeal.τ).loc Cert.KernelIdeal.main_arg2) = R)
    (hW : ∀ c : Dev Cert.KernelIdeal.nD, m ((c : Thread Cert.KernelIdeal.nD Cert.KernelIdeal.τ).loc Cert.KernelIdeal.main_arg3)
      = Layout.block ⟨3, ![4, 512, 1024]⟩ ⟨3, ![16, 512, 1024]⟩ 0 4 c W)
    (hv : Valid fun i => R (ix2 i 0)) (c : Dev Cert.KernelIdeal.nD) :
    Cert.KernelIdealProof.outF m c = Cert.ReferenceIdealProof.refOut X R W := by
  funext y
  obtain ⟨i, h, rfl⟩ : ∃ i h, y = ix2 i h := ⟨y 0, y 1, funext fun a => by
    match a with
    | ⟨0, _⟩ => rfl
    | ⟨1, _⟩ => rfl⟩
  refine (Cert.KernelIdealProof.outF_value m (X := X) (R := R) (W := W) (fun k => (Cert.KernelIdealProof.xstg_eq m k).trans (hX k))
    (fun k => (Cert.KernelIdealProof.rstg_eq m k).trans (hR k)) (fun k j d h e he => ?_) hv c i h).trans
    (Cert.ReferenceIdealProof.refOut_value X R W hv i h).symm
  rw [Cert.KernelIdealProof.wj_eq m k j d h, hW k]
  exact weights_of_block W k j d h e he

/-- The value claim: from tokens and expert numbers every device holds, the numbers all below sixteen, and from each device's four of the
    sixteen matrices, kernel and reference end with the same result, the kernel on every device. -/
theorem algebraic : Cert.algebraic_KernelIdeal_ReferenceIdeal_pre_expert_numbers_KernelIdeal (hKernelIdeal := Cert.KernelIdeal.Gen.facts)
    (hReferenceIdeal := Cert.ReferenceIdeal.Gen.facts) (hPre_expert_numbers_KernelIdeal := pre_facts) := by
  intro m g m' g' hpre hm
  have hv := valid_of_pre _ _ _ _ (hpre 0)
  rw [(hm 0).2.2.1] at hv
  refine ⟨Cert.ReferenceIdealProof.refOut _ _ _, ?_, (θ_run Cert.ReferenceIdeal.defs _ _).mono (fun r h => h 0)
    (Cert.ReferenceIdeal.Value.run (F := Ideal) m' g')⟩
  refine (θ_run Cert.KernelIdeal.defs _ _).mono (fun r h c => ?_) (Cert.KernelIdealProof.run_main (F := Ideal) m g)
  obtain ⟨hw, h1⟩ := h.1 c
  refine ⟨(hw 3).trans ((Cert.KernelIdealProof.finalA_out m g c).trans (outF_eq_refOut m _ _ _ (fun c => (hm c).1)
    (fun c => (hm c).2.2.1) (fun c => (hm c).2.2.2) hv c)), (hw 0).trans (Cert.KernelIdealProof.finalA_in m g c 0 rfl), h1,
    (hw 1).trans (Cert.KernelIdealProof.finalA_in m g c 1 rfl), (hw 2).trans (Cert.KernelIdealProof.finalA_in m g c 2 rfl)⟩

end Cert.Proof

end
-- ==== Proof.lean ====
/-
  The proof of `Cert.Claim`: the three frames, the two under the precondition, that the exact-number kernel is the printed one's own text,
  and the value claim.
-/
module

public import proofs.«01_k».proof.Defs
public import proofs.«01_k».proof.Proof.Frames
public import proofs.«01_k».proof.Proof.Equation

@[expose] public section

noncomputable section

namespace Cert.Proof

/-- Every claim. -/
theorem claim : Cert.Claim := ⟨Cert.Kernel.Gen.facts, Cert.KernelIdeal.Gen.facts, Cert.ReferenceIdeal.Gen.facts, pre_facts, pre_facts_reference,
  frame_kernel, frame_ideal, frame_ideal_pre, frame_reference, frame_reference_pre, trivial, algebraic⟩

end Cert.Proof

end
